-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v34)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v115) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)) (v5 : (c : Dev Cert.Kernel3Ideal.nD) → Buf (Elt Ideal) ((c.tc : Thread Cert.Kernel3Ideal.nD Cert.Kernel3Ideal.τ).loc Cert.Kernel3Ideal.main_v10_5)) (v6 : (c : Dev Cert.Kernel3Ideal.nD) → Buf (Elt Ideal) ((c.tc : Thread Cert.Kernel3Ideal.nD Cert.Kernel3Ideal.τ).loc Cert.Kernel3Ideal.main_v10_6)) (v7 : (c : Dev Cert.Kernel3Ideal.nD) → Buf (Elt Ideal) ((c.tc : Thread Cert.Kernel3Ideal.nD Cert.Kernel3Ideal.τ).loc Cert.Kernel3Ideal.main_v10_7)) (v8 : (c : Dev Cert.Kernel3Ideal.nD) → Buf (Elt Ideal) ((c.tc : Thread Cert.Kernel3Ideal.nD Cert.Kernel3Ideal.τ).loc Cert.Kernel3Ideal.main_v10_8)) (v9 : (c : Dev Cert.Kernel3Ideal.nD) → Buf (Elt Ideal) ((c.tc : Thread Cert.Kernel3Ideal.nD Cert.Kernel3Ideal.τ).loc Cert.Kernel3Ideal.main_v10_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_v10_5) = v5 c
          ∧ r.2.mem ((c.tc : Thread Cert.Kernel3Ideal.nD Cert.Kernel3Ideal.τ).loc Cert.Kernel3Ideal.main_v10_6) = v6 c
          ∧ r.2.mem ((c.tc : Thread Cert.Kernel3Ideal.nD Cert.Kernel3Ideal.τ).loc Cert.Kernel3Ideal.main_v10_7) = v7 c
          ∧ r.2.mem ((c.tc : Thread Cert.Kernel3Ideal.nD Cert.Kernel3Ideal.τ).loc Cert.Kernel3Ideal.main_v10_8) = v8 c
          ∧ r.2.mem ((c.tc : Thread Cert.Kernel3Ideal.nD Cert.Kernel3Ideal.τ).loc Cert.Kernel3Ideal.main_v10_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_v30) = v4 c
          ∧ r.2.mem ((c.tc : Thread Cert.Reference3Ideal.nD Cert.Reference3Ideal.τ).loc Cert.Reference3Ideal.main_v32) = v5 c
          ∧ r.2.mem ((c.tc : Thread Cert.Reference3Ideal.nD Cert.Reference3Ideal.τ).loc Cert.Reference3Ideal.main_v34) = v6 c
          ∧ r.2.mem ((c.tc : Thread Cert.Reference3Ideal.nD Cert.Reference3Ideal.τ).loc Cert.Reference3Ideal.main_v36) = v7 c
          ∧ r.2.mem ((c.tc : Thread Cert.Reference3Ideal.nD Cert.Reference3Ideal.τ).loc Cert.Reference3Ideal.main_v38) = v8 c
          ∧ r.2.mem ((c.tc : Thread Cert.Reference3Ideal.nD Cert.Reference3Ideal.τ).loc Cert.Reference3Ideal.main_v40) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x2048x512 : Shape := ⟨3, ![16, 2048, 512]⟩
abbrev S32768x512 : Shape := ⟨2, ![32768, 512]⟩
abbrev S_ : Shape := ⟨0, ![]⟩

class Facts : Prop where
  bitsLt_bf16_f32 : FTy.bits .bf16 < FTy.bits .f32
  bcast_S_S16x2048x512 : S_.BroadcastsInDim S16x2048x512 (![] : Fin 0 → Fin S16x2048x512.rank)

variable [Facts]

def fn {F : FTy → Type} [FloatOps F] (main_arg0 : FVec F S16x2048x512 .bf16) (main_arg1 : FVec F S32768x512 .bf16) : IVec S16x2048x512 1 :=
  let main_v0 : FVec F S16x2048x512 .f32 := (extf .f32 · bitsLt_bf16_f32) main_arg0
  let main_v1 : FVec F S16x2048x512 .f32 := Host.absf main_v0
  let main_cst : FVec F S_ .f32 := constant S_ .f32 0x7F800000#32
  let main_v2 : FVec F S16x2048x512 .f32 := broadcastInDim S16x2048x512 ![] bcast_S_S16x2048x512 main_cst
  let main_v3 : IVec S16x2048x512 1 := cmpf .olt main_v1 main_v2
  main_v3
-- ==== Kernel.lean ====
abbrev S16x2048x512 : Shape := ⟨3, ![16, 2048, 512]⟩
abbrev S32768x512 : Shape := ⟨2, ![32768, 512]⟩
abbrev S2x128x2x2x64 : Shape := ⟨5, ![2, 128, 2, 2, 64]⟩
abbrev S_ : Shape := ⟨0, ![]⟩
abbrev S256x256 : Shape := ⟨2, ![256, 256]⟩
abbrev S512x256 : Shape := ⟨2, ![512, 256]⟩
abbrev S8x256x128 : Shape := ⟨3, ![8, 256, 128]⟩
abbrev S16x256x8x512 : Shape := ⟨4, ![16, 256, 8, 512]⟩
abbrev S16x8x256x512 : Shape := ⟨4, ![16, 8, 256, 512]⟩
abbrev S8x2048x512 : Shape := ⟨3, ![8, 2048, 512]⟩
abbrev S1x8x256x512 : Shape := ⟨4, ![1, 8, 256, 512]⟩
abbrev S1x2048x512 : Shape := ⟨3, ![1, 2048, 512]⟩
abbrev S8x256x512 : Shape := ⟨3, ![8, 256, 512]⟩
abbrev S2048x512 : Shape := ⟨2, ![2048, 512]⟩
abbrev S2048x256 : Shape := ⟨2, ![2048, 256]⟩
abbrev S2048x128 : Shape := ⟨2, ![2048, 128]⟩
abbrev S256x512 : Shape := ⟨2, ![256, 512]⟩
abbrev S512x512 : Shape := ⟨2, ![512, 512]⟩
abbrev S1x256x128 : Shape := ⟨3, ![1, 256, 128]⟩
abbrev S256x128 : Shape := ⟨2, ![256, 128]⟩
abbrev S1x256x256 : Shape := ⟨3, ![1, 256, 256]⟩

abbrev nBuf : Space → Nat
  | .hbm => 86
  | .vmem => 8
  | .smem => 0
  | _ => 0

abbrev bufTy : (tb : Table) → Fin (tcTables nBuf tb) → BufTy
  | .hbm, ⟨0, _⟩ => ⟨S16x2048x512, .bf16⟩
  | .hbm, ⟨1, _⟩ => ⟨S32768x512, .bf16⟩
  | .hbm, ⟨2, _⟩ => ⟨S2x128x2x2x64, .i32⟩
  | .hbm, ⟨3, _⟩ => ⟨S2x128x2x2x64, .i32⟩
  | .hbm, ⟨4, _⟩ => ⟨S2x128x2x2x64, .i32⟩
  | .hbm, ⟨5, _⟩ => ⟨S2x128x2x2x64, .i32⟩
  | .hbm, ⟨6, _⟩ => ⟨S2x128x2x2x64, .i32⟩
  | .hbm, ⟨7, _⟩ => ⟨S2x128x2x2x64, .i32⟩
  | .hbm, ⟨8, _⟩ => ⟨S2x128x2x2x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x128x2x2x64, .f32⟩
  | .hbm, ⟨16, _⟩ => ⟨S2x128x2x2x64, .f32⟩
  | .hbm, ⟨17, _⟩ => ⟨S_, .f32⟩
  | .hbm, ⟨18, _⟩ => ⟨S_, .f32⟩
  | .hbm, ⟨19, _⟩ => ⟨S_, .i32⟩
  | .hbm, ⟨20, _⟩ => ⟨S2x128x2x2x64, .i32⟩
  | .hbm, ⟨21, _⟩ => ⟨S2x128x2x2x64, .i1⟩
  | .hbm, ⟨22, _⟩ => ⟨S2x128x2x2x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x128x2x2x64, .f32⟩
  | .hbm, ⟨28, _⟩ => ⟨S2x128x2x2x64, .f32⟩
  | .hbm, ⟨29, _⟩ => ⟨S2x128x2x2x64, .f32⟩
  | .hbm, ⟨30, _⟩ => ⟨S2x128x2x2x64, .f32⟩
  | .hbm, ⟨31, _⟩ => ⟨S2x128x2x2x64, .f32⟩
  | .hbm, ⟨32, _⟩ => ⟨S2x128x2x2x64, .f32⟩
  | .hbm, ⟨33, _⟩ => ⟨S2x128x2x2x64, .i1⟩
  | .hbm, ⟨34, _⟩ => ⟨S_, .i32⟩
  | .hbm, ⟨35, _⟩ => ⟨S2x128x2x2x64, .i32⟩
  | .hbm, ⟨36, _⟩ => ⟨S2x128x2x2x64, .i1⟩
  | .hbm, ⟨37, _⟩ => ⟨S2x128x2x2x64, .f32⟩
  | .hbm, ⟨38, _⟩ => ⟨S2x128x2x2x64, .f32⟩
  | .hbm, ⟨39, _⟩ => ⟨S2x128x2x2x64, .f32⟩
  | .hbm, ⟨40, _⟩ => ⟨S2x128x2x2x64, .f32⟩
  | .hbm, ⟨41, _⟩ => ⟨S_, .f32⟩
  | .hbm, ⟨42, _⟩ => ⟨S2x128x2x2x64, .f32⟩
  | .hbm, ⟨43, _⟩ => ⟨S2x128x2x2x64, .f32⟩
  | .hbm, ⟨44, _⟩ => ⟨S256x256, .i32⟩
  | .hbm, ⟨45, _⟩ => ⟨S256x256, .i32⟩
  | .hbm, ⟨46, _⟩ => ⟨S256x256, .i32⟩
  | .hbm, ⟨47, _⟩ => ⟨S_, .i32⟩
  | .hbm, ⟨48, _⟩ => ⟨S256x256, .i32⟩
  | .hbm, ⟨49, _⟩ => ⟨S256x256, .i32⟩
  | .hbm, ⟨50, _⟩ => ⟨S256x256, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S512x256, .f32⟩
  | .hbm, ⟨62, _⟩ => ⟨S_, .f32⟩
  | .hbm, ⟨63, _⟩ => ⟨S_, .f32⟩
  | .hbm, ⟨64, _⟩ => ⟨S512x256, .f32⟩
  | .hbm, ⟨65, _⟩ => ⟨S512x256, .f32⟩
  | .hbm, ⟨66, _⟩ => ⟨S8x256x128, .i32⟩
  | .hbm, ⟨67, _⟩ => ⟨S8x256x128, .i32⟩
  | .hbm, ⟨68, _⟩ => ⟨S8x256x128, .i32⟩
  | .hbm, ⟨69, _⟩ => ⟨S8x256x128, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8x256x128, .f32⟩
  | .hbm, ⟨77, _⟩ => ⟨S8x256x128, .f32⟩
  | .hbm, ⟨78, _⟩ => ⟨S256x256, .f32⟩
  | .hbm, ⟨79, _⟩ => ⟨S8x256x128, .f32⟩
  | .hbm, ⟨80, _⟩ => ⟨S8x256x128, .f32⟩
  | .hbm, ⟨81, _⟩ => ⟨S256x256, .bf16⟩
  | .hbm, ⟨82, _⟩ => ⟨S512x256, .bf16⟩
  | .hbm, ⟨83, _⟩ => ⟨S16x256x8x512, .bf16⟩
  | .hbm, ⟨84, _⟩ => ⟨S16x8x256x512, .bf16⟩
  | .hbm, ⟨85, _⟩ => ⟨S8x2048x512, .bf16⟩
  | .local _ .vmem, ⟨0, _⟩ => ⟨S1x8x256x512, .bf16⟩
  | .local _ .vmem, ⟨1, _⟩ => ⟨S1x8x256x512, .bf16⟩
  | .local _ .vmem, ⟨2, _⟩ => ⟨S256x256, .bf16⟩
  | .local _ .vmem, ⟨3, _⟩ => ⟨S512x256, .bf16⟩
  | .local _ .vmem, ⟨4, _⟩ => ⟨S8x256x128, .f32⟩
  | .local _ .vmem, ⟨5, _⟩ => ⟨S8x256x128, .f32⟩
  | .local _ .vmem, ⟨6, _⟩ => ⟨S1x2048x512, .bf16⟩
  | .local _ .vmem, ⟨7, _⟩ => ⟨S1x2048x512, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_12 : Ref sig .tc := ⟨.hbm, 70, rfl⟩
abbrev main_v54 : Ref sig .tc := ⟨.hbm, 71, rfl⟩
abbrev main_cst_13 : Ref sig .tc := ⟨.hbm, 72, rfl⟩
abbrev main_v55 : Ref sig .tc := ⟨.hbm, 73, rfl⟩
abbrev main_cst_14 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "sqrt_half" => some (((Real.sqrt 2)⁻¹ : ℝ) : EReal)
  | _ => none
-- ==== ReferenceIdeal.lean ====
abbrev S16x2048x512 : Shape := ⟨3, ![16, 2048, 512]⟩
abbrev S32768x512 : Shape := ⟨2, ![32768, 512]⟩
abbrev S8x2048x512 : Shape := ⟨3, ![8, 2048, 512]⟩
abbrev S8x2048x4x128 : Shape := ⟨4, ![8, 2048, 4, 128]⟩
abbrev S128x128 : Shape := ⟨2, ![128, 128]⟩
abbrev S_ : Shape := ⟨0, ![]⟩
abbrev S2048x2048 : Shape := ⟨2, ![2048, 2048]⟩
abbrev S8x4x128x2048 : Shape := ⟨4, ![8, 4, 128, 2048]⟩
abbrev S8x2048x4x64 : Shape := ⟨4, ![8, 2048, 4, 64]⟩
abbrev S8x2048x256 : Shape := ⟨3, ![8, 2048, 256]⟩
abbrev S8x2048x4x1 : Shape := ⟨4, ![8, 2048, 4, 1]⟩
abbrev S8x2048x4x63 : Shape := ⟨4, ![8, 2048, 4, 63]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S32768x512, .bf16⟩
  | .hbm, ⟨2, _⟩ => ⟨S8x2048x512, .bf16⟩
  | .hbm, ⟨3, _⟩ => ⟨S8x2048x512, .f32⟩
  | .hbm, ⟨4, _⟩ => ⟨S8x2048x4x128, .f32⟩
  | .hbm, ⟨5, _⟩ => ⟨S128x128, .i32⟩
  | .hbm, ⟨6, _⟩ => ⟨S128x128, .i32⟩
  | .hbm, ⟨7, _⟩ => ⟨S128x128, .i32⟩
  | .hbm, ⟨8, _⟩ => ⟨S128x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S2048x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S128x128, .f32⟩
  | .hbm, ⟨30, _⟩ => ⟨S8x2048x4x128, .f32⟩
  | .hbm, ⟨31, _⟩ => ⟨S128x128, .f32⟩
  | .hbm, ⟨32, _⟩ => ⟨S8x2048x4x128, .f32⟩
  | .hbm, ⟨33, _⟩ => ⟨S2048x2048, .f32⟩
  | .hbm, ⟨34, _⟩ => ⟨S8x4x128x2048, .f32⟩
  | .hbm, ⟨35, _⟩ => ⟨S8x2048x4x128, .f32⟩
  | .hbm, ⟨36, _⟩ => ⟨S2048x2048, .f32⟩
  | .hbm, ⟨37, _⟩ => ⟨S8x4x128x2048, .f32⟩
  | .hbm, ⟨38, _⟩ => ⟨S8x2048x4x128, .f32⟩
  | .hbm, ⟨39, _⟩ => ⟨S8x2048x4x128, .f32⟩
  | .hbm, ⟨40, _⟩ => ⟨S_, .f32⟩
  | .hbm, ⟨41, _⟩ => ⟨S8x2048x4x128, .f32⟩
  | .hbm, ⟨42, _⟩ => ⟨S8x2048x4x128, .f32⟩
  | .hbm, ⟨43, _⟩ => ⟨S8x2048x4x128, .bf16⟩
  | .hbm, ⟨44, _⟩ => ⟨S8x2048x4x64, .bf16⟩
  | .hbm, ⟨45, _⟩ => ⟨S8x2048x256, .bf16⟩
  | .hbm, ⟨46, _⟩ => ⟨S8x2048x4x1, .bf16⟩
  | .hbm, ⟨47, _⟩ => ⟨S8x2048x4x63, .bf16⟩
  | .hbm, ⟨48, _⟩ => ⟨S8x2048x4x63, .bf16⟩
  | .hbm, ⟨49, _⟩ => ⟨S8x2048x4x64, .bf16⟩
  | .hbm, ⟨50, _⟩ => ⟨S8x2048x256, .bf16⟩
  | .hbm, ⟨51, _⟩ => ⟨S8x2048x512, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x512 : Shape := ⟨3, ![16, 2048, 512]⟩
abbrev S1x16x2048x256 : Shape := ⟨4, ![1, 16, 2048, 256]⟩
abbrev S1x512 : Shape := ⟨2, ![1, 512]⟩
abbrev S1x512x2048 : Shape := ⟨3, ![1, 512, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S512 : Shape := ⟨1, ![512]⟩
abbrev S512x1024 : Shape := ⟨2, ![512, 1024]⟩
abbrev S_ : Shape := ⟨0, ![]⟩
abbrev S512x1 : Shape := ⟨2, ![512, 1]⟩
abbrev S1 : Shape := ⟨1, ![1]⟩
abbrev S1x1 : Shape := ⟨2, ![1, 1]⟩
abbrev S8x2048x512 : Shape := ⟨3, ![8, 2048, 512]⟩
abbrev S512x2048 : Shape := ⟨2, ![512, 2048]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S32768x1024 : Shape := ⟨2, ![32768, 1024]⟩
abbrev S32768x512 : Shape := ⟨2, ![32768, 512]⟩
abbrev S16384x512 : Shape := ⟨2, ![16384, 512]⟩
abbrev S16x2048x256 : Shape := ⟨3, ![16, 2048, 256]⟩
abbrev S32768x256 : Shape := ⟨2, ![32768, 256]⟩
abbrev S512x512 : Shape := ⟨2, ![512, 512]⟩
abbrev S512x256 : Shape := ⟨2, ![512, 256]⟩
abbrev S512x4096 : Shape := ⟨2, ![512, 4096]⟩

abbrev nBuf : Space → Nat
  | .hbm => 98
  | .vmem => 29
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x2048x512, .bf16⟩
  | .hbm, ⟨4, _⟩ => ⟨S16x2048x1024, .bf16⟩
  | .hbm, ⟨5, _⟩ => ⟨S16x2048x1024, .bf16⟩
  | .hbm, ⟨6, _⟩ => ⟨S1x16x2048x256, .f32⟩
  | .hbm, ⟨7, _⟩ => ⟨S1x512, .f32⟩
  | .hbm, ⟨8, _⟩ => ⟨S1x512x2048, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1x1024x4096, .f32⟩
  | .hbm, ⟨13, _⟩ => ⟨S1x4096x1024, .f32⟩
  | .hbm, ⟨14, _⟩ => ⟨S1x1024, .f32⟩
  | .hbm, ⟨15, _⟩ => ⟨S1x1024x1024, .f32⟩
  | .hbm, ⟨16, _⟩ => ⟨S1x256x1024, .f32⟩
  | .hbm, ⟨17, _⟩ => ⟨S1024, .f32⟩
  | .hbm, ⟨18, _⟩ => ⟨S512, .i32⟩
  | .hbm, ⟨19, _⟩ => ⟨S512x1024, .f32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1, .i32⟩
  | .hbm, ⟨29, _⟩ => ⟨S_, .i32⟩
  | .hbm, ⟨30, _⟩ => ⟨S512x1, .i32⟩
  | .hbm, ⟨31, _⟩ => ⟨S512x1, .i1⟩
  | .hbm, ⟨32, _⟩ => ⟨S1x1, .i32⟩
  | .hbm, ⟨33, _⟩ => ⟨S512x1, .i32⟩
  | .hbm, ⟨34, _⟩ => ⟨S512x1, .i1⟩
  | .hbm, ⟨35, _⟩ => ⟨S512x1, .i1⟩
  | .hbm, ⟨36, _⟩ => ⟨S_, .i1⟩
  | .hbm, ⟨37, _⟩ => ⟨S512, .i1⟩
  | .hbm, ⟨38, _⟩ => ⟨S512x1024, .f32⟩
  | .hbm, ⟨39, _⟩ => ⟨S512x1024, .i1⟩
  | .hbm, ⟨40, _⟩ => ⟨S_, .f32⟩
  | .hbm, ⟨41, _⟩ => ⟨S512x1024, .f32⟩
  | .hbm, ⟨42, _⟩ => ⟨S512x1024, .f32⟩
  | .hbm, ⟨43, _⟩ => ⟨S512x1024, .bf16⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S512, .i32⟩
  | .hbm, ⟨51, _⟩ => ⟨S512x1, .i32⟩
  | .hbm, ⟨52, _⟩ => ⟨S1, .i32⟩
  | .hbm, ⟨53, _⟩ => ⟨S_, .i32⟩
  | .hbm, ⟨54, _⟩ => ⟨S512x1, .i32⟩
  | .hbm, ⟨55, _⟩ => ⟨S512x1, .i1⟩
  | .hbm, ⟨56, _⟩ => ⟨S1x1, .i32⟩
  | .hbm, ⟨57, _⟩ => ⟨S512x1, .i32⟩
  | .hbm, ⟨58, _⟩ => ⟨S512x1, .i1⟩
  | .hbm, ⟨59, _⟩ => ⟨S512x1, .i1⟩
  | .hbm, ⟨60, _⟩ => ⟨S_, .i1⟩
  | .hbm, ⟨61, _⟩ => ⟨S512, .i1⟩
  | .hbm, ⟨62, _⟩ => ⟨S16x2048x512, .bf16⟩
  | .hbm, ⟨63, _⟩ => ⟨S16x2048x512, .i1⟩
  | .hbm, ⟨64, _⟩ => ⟨S_, .bf16⟩
  | .hbm, ⟨65, _⟩ => ⟨S16x2048x512, .bf16⟩
  | .hbm, ⟨66, _⟩ => ⟨S16x2048x512, .bf16⟩
  | .hbm, ⟨67, _⟩ => ⟨S8x2048x512, .bf16⟩
  | .hbm, ⟨68, _⟩ => ⟨S8x2048x512, .bf16⟩
  | .hbm, ⟨69, _⟩ => ⟨S512, .f32⟩
  | .hbm, ⟨70, _⟩ => ⟨S1x512, .f32⟩
  | .hbm, ⟨71, _⟩ => ⟨S512x2048, .f32⟩
  | .hbm, ⟨72, _⟩ => ⟨S512x2048, .bf16⟩
  | .hbm, ⟨73, _⟩ => ⟨S1024x1024, .f32⟩
  | .hbm, ⟨74, _⟩ => ⟨S1024x1024, .bf16⟩
  | .hbm, ⟨75, _⟩ => ⟨S1024, .f32⟩
  | .hbm, ⟨76, _⟩ => ⟨S1x1024, .f32⟩
  | .hbm, ⟨77, _⟩ => ⟨S1024x4096, .f32⟩
  | .hbm, ⟨78, _⟩ => ⟨S1024x4096, .bf16⟩
  | .hbm, ⟨79, _⟩ => ⟨S4096x1024, .f32⟩
  | .hbm, ⟨80, _⟩ => ⟨S4096x1024, .bf16⟩
  | .hbm, ⟨81, _⟩ => ⟨S1024, .f32⟩
  | .hbm, ⟨82, _⟩ => ⟨S1x1024, .f32⟩
  | .hbm, ⟨83, _⟩ => ⟨S1024x1024, .f32⟩
  | .hbm, ⟨84, _⟩ => ⟨S1024x1024, .bf16⟩
  | .hbm, ⟨85, _⟩ => ⟨S256x1024, .f32⟩
  | .hbm, ⟨86, _⟩ => ⟨S256x1024, .bf16⟩
  | .hbm, ⟨87, _⟩ => ⟨S1x1024, .f32⟩
  | .hbm, ⟨88, _⟩ => ⟨S32768x1024, .f32⟩
  | .hbm, ⟨89, _⟩ => ⟨S32768x512, .bf16⟩
  | .hbm, ⟨90, _⟩ => ⟨S32768x512, .bf16⟩
  | .hbm, ⟨91, _⟩ => ⟨S16384x512, .bf16⟩
  | .hbm, ⟨92, _⟩ => ⟨S16384x512, .bf16⟩
  | .hbm, ⟨93, _⟩ => ⟨S32768x1024, .bf16⟩
  | .hbm, ⟨94, _⟩ => ⟨S32768x1024, .bf16⟩
  | .hbm, ⟨95, _⟩ => ⟨S16x2048x256, .f32⟩
  | .hbm, ⟨96, _⟩ => ⟨S32768x256, .f32⟩
  | .hbm, ⟨97, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x256, .f32⟩
  | .local _ .vmem, ⟨15, _⟩ => ⟨S512x256, .f32⟩
  | .local _ .vmem, ⟨16, _⟩ => ⟨S1x512, .f32⟩
  | .local _ .vmem, ⟨17, _⟩ => ⟨S512x2048, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S1024x4096, .bf16⟩
  | .local _ .vmem, ⟨22, _⟩ => ⟨S4096x1024, .bf16⟩
  | .local _ .vmem, ⟨23, _⟩ => ⟨S1x1024, .f32⟩
  | .local _ .vmem, ⟨24, _⟩ => ⟨S1024x1024, .bf16⟩
  | .local _ .vmem, ⟨25, _⟩ => ⟨S256x1024, .bf16⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v1 : Ref sig .tc := ⟨.hbm, 42, rfl⟩
abbrev main_v2 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v3 : Ref sig .tc := ⟨.hbm, 66, rfl⟩
abbrev main_v4 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg19_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S16x2048x1024 : Shape := ⟨3, ![16, 2048, 1024]⟩
abbrev S16x2048x512 : Shape := ⟨3, ![16, 2048, 512]⟩
abbrev S1x16x2048x256 : Shape := ⟨4, ![1, 16, 2048, 256]⟩
abbrev S1x512 : Shape := ⟨2, ![1, 512]⟩
abbrev S1x512x2048 : Shape := ⟨3, ![1, 512, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S512 : Shape := ⟨1, ![512]⟩
abbrev S1x1x512 : Shape := ⟨3, ![1, 1, 512]⟩
abbrev S_ : Shape := ⟨0, ![]⟩
abbrev S512x2048 : Shape := ⟨2, ![512, 2048]⟩
abbrev S16x2048x2048 : Shape := ⟨3, ![16, 2048, 2048]⟩
abbrev S512x1024 : Shape := ⟨2, ![512, 1024]⟩
abbrev S1024x1024 : Shape := ⟨2, ![1024, 1024]⟩
abbrev S16x2048 : Shape := ⟨2, ![16, 2048]⟩
abbrev S16x2048x1 : Shape := ⟨3, ![16, 2048, 1]⟩
abbrev S1x1x1024 : Shape := ⟨3, ![1, 1, 1024]⟩
abbrev S1024x4096 : Shape := ⟨2, ![1024, 4096]⟩
abbrev S16x2048x4096 : Shape := ⟨3, ![16, 2048, 4096]⟩
abbrev S4096x1024 : Shape := ⟨2, ![4096, 1024]⟩
abbrev S16x2048x256 : Shape := ⟨3, ![16, 2048, 256]⟩
abbrev S256x1024 : Shape := ⟨2, ![256, 1024]⟩
abbrev S32768x1024 : Shape := ⟨2, ![32768, 1024]⟩

abbrev nBuf : Space → Nat
  | .hbm => 157
  | .vmem => 0
  | .smem => 0
  | _ => 0

abbrev hbmTy0_0 (i : Nat) : BufTy := match i % 128 with
  | 0 => ⟨S16x2048x1024, .f32⟩
  | 1 => ⟨S16x2048x512, .bf16⟩
  | 2 => ⟨S16x2048x512, .bf16⟩
  | 3 => ⟨S16x2048x512, .bf16⟩
  | 4 => ⟨S16x2048x1024, .bf16⟩
  | 5 => ⟨S16x2048x1024, .bf16⟩
  | 6 => ⟨S1x16x2048x256, .f32⟩
  | 7 => ⟨S1x512, .f32⟩
  | 8 => ⟨S1x512x2048, .f32⟩
  | 9 => ⟨S1x512x1024, .f32⟩
  | 10 => ⟨S1x1024x1024, .f32⟩
  | 11 => ⟨S1x1024, .f32⟩
  | 12 => ⟨S1x1024x4096, .f32⟩
  | 13 => ⟨S1x4096x1024, .f32⟩
  | 14 => ⟨S1x1024, .f32⟩
  | 15 => ⟨S1x1024x1024, .f32⟩
  | 16 => ⟨S1x256x1024, .f32⟩
  | 17 => ⟨S1024, .f32⟩
  | 18 => ⟨S16x2048x512, .f32⟩
  | 19 => ⟨S512, .f32⟩
  | 20 => ⟨S16x2048x512, .f32⟩
  | 21 => ⟨S1x1x512, .f32⟩
  | 22 => ⟨S16x2048x512, .f32⟩
  | 23 => ⟨S16x2048x512, .f32⟩
  | 24 => ⟨S16x2048x512, .f32⟩
  | 25 => ⟨S16x2048x512, .f32⟩
  | 26 => ⟨S16x2048x512, .f32⟩
  | 27 => ⟨S_, .f32⟩
  | 28 => ⟨S16x2048x512, .f32⟩
  | 29 => ⟨S16x2048x512, .f32⟩
  | 30 => ⟨S16x2048x512, .f32⟩
  | 31 => ⟨S_, .f32⟩
  | 32 => ⟨S16x2048x512, .f32⟩
  | 33 => ⟨S16x2048x512, .f32⟩
  | 34 => ⟨S16x2048x512, .f32⟩
  | 35 => ⟨S_, .f32⟩
  | 36 => ⟨S16x2048x512, .f32⟩
  | 37 => ⟨S16x2048x512, .f32⟩
  | 38 => ⟨S_, .f32⟩
  | 39 => ⟨S16x2048x512, .f32⟩
  | 40 => ⟨S16x2048x512, .f32⟩
  | 41 => ⟨S16x2048x512, .f32⟩
  | 42 => ⟨S512x2048, .f32⟩
  | 43 => ⟨S16x2048x2048, .f32⟩
  | 44 => ⟨S16x2048x1024, .f32⟩
  | 45 => ⟨S16x2048x1024, .f32⟩
  | 46 => ⟨S16x2048x1024, .f32⟩
  | 47 => ⟨S16x2048x1024, .f32⟩
  | 48 => ⟨S_, .f32⟩
  | 49 => ⟨S16x2048x1024, .f32⟩
  | 50 => ⟨S16x2048x1024, .f32⟩
  | 51 => ⟨S_, .f32⟩
  | 52 => ⟨S16x2048x1024, .f32⟩
  | 53 => ⟨S16x2048x1024, .f32⟩
  | 54 => ⟨S16x2048x1024, .f32⟩
  | 55 => ⟨S16x2048x512, .f32⟩
  | 56 => ⟨S512x1024, .f32⟩
  | 57 => ⟨S16x2048x1024, .f32⟩
  | 58 => ⟨S16x2048x1024, .f32⟩
  | 59 => ⟨S16x2048x1024, .f32⟩
  | 60 => ⟨S16x2048x1024, .f32⟩
  | 61 => ⟨S_, .f32⟩
  | 62 => ⟨S16x2048x1024, .f32⟩
  | 63 => ⟨S16x2048x1024, .f32⟩
  | 64 => ⟨S_, .f32⟩
  | 65 => ⟨S16x2048x1024, .f32⟩
  | 66 => ⟨S16x2048x1024, .f32⟩
  | 67 => ⟨S16x2048x1024, .f32⟩
  | 68 => ⟨S16x2048x1024, .f32⟩
  | 69 => ⟨S16x2048x1024, .f32⟩
  | 70 => ⟨S16x2048x1024, .f32⟩
  | 71 => ⟨S_, .f32⟩
  | 72 => ⟨S16x2048x1024, .f32⟩
  | 73 => ⟨S16x2048x1024, .f32⟩
  | 74 => ⟨S_, .f32⟩
  | 75 => ⟨S16x2048x1024, .f32⟩
  | 76 => ⟨S16x2048x1024, .f32⟩
  | 77 => ⟨S16x2048x1024, .f32⟩
  | 78 => ⟨S16x2048x1024, .f32⟩
  | 79 => ⟨S1024x1024, .f32⟩
  | 80 => ⟨S16x2048x1024, .f32⟩
  | 81 => ⟨S16x2048x1024, .f32⟩
  | 82 => ⟨S1024, .f32⟩
  | 83 => ⟨S16x2048x1024, .f32⟩
  | 84 => ⟨S_, .f32⟩
  | 85 => ⟨S16x2048, .f32⟩
  | 86 => ⟨S16x2048x1, .f32⟩
  | 87 => ⟨S_, .f32⟩
  | 88 => ⟨S16x2048x1, .f32⟩
  | 89 => ⟨S16x2048x1, .f32⟩
  | 90 => ⟨S_, .f32⟩
  | 91 => ⟨S16x2048x1, .f32⟩
  | 92 => ⟨S16x2048x1, .f32⟩
  | 93 => ⟨S16x2048x1, .f32⟩
  | 94 => ⟨S16x2048x1024, .f32⟩
  | 95 => ⟨S16x2048x1024, .f32⟩
  | 96 => ⟨S1x1x1024, .f32⟩
  | 97 => ⟨S16x2048x1024, .f32⟩
  | 98 => ⟨S16x2048x1024, .f32⟩
  | 99 => ⟨S1024x4096, .f32⟩
  | 100 => ⟨S16x2048x4096, .f32⟩
  | 101 => ⟨S_, .f32⟩
  | 102 => ⟨S16x2048x4096, .f32⟩
  | 103 => ⟨S16x2048x4096, .f32⟩
  | 104 => ⟨S16x2048x4096, .f32⟩
  | 105 => ⟨S4096x1024, .f32⟩
  | 106 => ⟨S16x2048x1024, .f32⟩
  | 107 => ⟨S16x2048x1024, .f32⟩
  | 108 => ⟨S1024, .f32⟩
  | 109 => ⟨S16x2048x1024, .f32⟩
  | 110 => ⟨S_, .f32⟩
  | 111 => ⟨S16x2048, .f32⟩
  | 112 => ⟨S16x2048x1, .f32⟩
  | 113 => ⟨S_, .f32⟩
  | 114 => ⟨S16x2048x1, .f32⟩
  | 115 => ⟨S16x2048x1, .f32⟩
  | 116 => ⟨S_, .f32⟩
  | 117 => ⟨S16x2048x1, .f32⟩
  | 118 => ⟨S16x2048x1, .f32⟩
  | 119 => ⟨S16x2048x1, .f32⟩
  | 120 => ⟨S16x2048x1024, .f32⟩
  | 121 => ⟨S16x2048x1024, .f32⟩
  | 122 => ⟨S1x1x1024, .f32⟩
  | 123 => ⟨S16x2048x1024, .f32⟩
  | 124 => ⟨S16x2048x1024, .f32⟩
  | 125 => ⟨S1024x1024, .f32⟩
  | 126 => ⟨S16x2048x1024, .f32⟩
  | 127 => ⟨S16x2048x1024, .f32⟩
  | _ => ⟨S16x2048x1024, .f32⟩

abbrev hbmTy0_1 (i : Nat) : BufTy := match i % 128 with
  | 0 => ⟨S16x2048x1024, .f32⟩
  | 1 => ⟨S_, .f32⟩
  | 2 => ⟨S16x2048x1024, .f32⟩
  | 3 => ⟨S16x2048x1024, .f32⟩
  | 4 => ⟨S_, .f32⟩
  | 5 => ⟨S16x2048x1024, .f32⟩
  | 6 => ⟨S16x2048x1024, .f32⟩
  | 7 => ⟨S16x2048x256, .f32⟩
  | 8 => ⟨S256x1024, .f32⟩
  | 9 => ⟨S16x2048x1024, .f32⟩
  | 10 => ⟨S16x2048x1024, .f32⟩
  | 11 => ⟨S16x2048x1024, .f32⟩
  | 12 => ⟨S16x2048x1024, .f32⟩
  | 13 => ⟨S_, .f32⟩
  | 14 => ⟨S16x2048, .f32⟩
  | 15 => ⟨S16x2048x1, .f32⟩
  | 16 => ⟨S_, .f32⟩
  | 17 => ⟨S16x2048x1, .f32⟩
  | 18 => ⟨S16x2048x1, .f32⟩
  | 19 => ⟨S_, .f32⟩
  | 20 => ⟨S16x2048x1, .f32⟩
  | 21 => ⟨S16x2048x1, .f32⟩
  | 22 => ⟨S16x2048x1, .f32⟩
  | 23 => ⟨S16x2048x1024, .f32⟩
  | 24 => ⟨S16x2048x1024, .f32⟩
  | 25 => ⟨S1x1x1024, .f32⟩
  | 26 => ⟨S16x2048x1024, .f32⟩
  | 27 => ⟨S16x2048x1024, .f32⟩
  | 28 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call0_cst : Ref sig .tc := ⟨.hbm, 101, rfl⟩
abbrev main_call0_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_12 : Ref sig .tc := ⟨.hbm, 110, rfl⟩
abbrev main_v77 : Ref sig .tc := ⟨.hbm, 111, rfl⟩
abbrev main_v78 : Ref sig .tc := ⟨.hbm, 112, rfl⟩
abbrev main_cst_13 : Ref sig .tc := ⟨.hbm, 113, rfl⟩
abbrev main_v79 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_15 : Ref sig .tc := ⟨.hbm, 129, rfl⟩
abbrev main_v93 : Ref sig .tc := ⟨.hbm, 130, rfl⟩
abbrev main_v94 : Ref sig .tc := ⟨.hbm, 131, rfl⟩
abbrev main_cst_16 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_17 : Ref sig .tc := ⟨.hbm, 141, rfl⟩
abbrev main_v103 : Ref sig .tc := ⟨.hbm, 142, rfl⟩
abbrev main_v104 : Ref sig .tc := ⟨.hbm, 143, rfl⟩
abbrev main_cst_18 : Ref sig .tc := ⟨.hbm, 144, rfl⟩
abbrev main_v105 : Ref sig .tc := ⟨.hbm, 145, rfl⟩
abbrev main_v106 : Ref sig .tc := ⟨.hbm, 146, rfl⟩
abbrev main_cst_19 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024 : Shape := ⟨2, ![1, 1024]⟩
abbrev S1x1024x3072 : Shape := ⟨3, ![1, 1024, 3072]⟩
abbrev S1x512x2048 : Shape := ⟨3, ![1, 512, 2048]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S32768x1024 : Shape := ⟨2, ![32768, 1024]⟩
abbrev S1024 : Shape := ⟨1, ![1024]⟩
abbrev S1024x3072 : Shape := ⟨2, ![1024, 3072]⟩
abbrev S512x2048 : Shape := ⟨2, ![512, 2048]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S32768x512 : Shape := ⟨2, ![32768, 512]⟩
abbrev S16x8x256x512 : Shape := ⟨4, ![16, 8, 256, 512]⟩
abbrev S16x2048 : Shape := ⟨2, ![16, 2048]⟩
abbrev S16x1024 : Shape := ⟨2, ![16, 1024]⟩
abbrev S32x1024 : Shape := ⟨2, ![32, 1024]⟩
abbrev S32x4096 : Shape := ⟨2, ![32, 4096]⟩
abbrev S128x1024 : Shape := ⟨2, ![128, 1024]⟩
abbrev S1024x512 : Shape := ⟨2, ![1024, 512]⟩
abbrev S1x8x128x512 : Shape := ⟨4, ![1, 8, 128, 512]⟩
abbrev S4x1024x128 : Shape := ⟨3, ![4, 1024, 128]⟩
abbrev S1024x1 : Shape := ⟨2, ![1024, 1]⟩
abbrev S1024x128 : Shape := ⟨2, ![1024, 128]⟩
abbrev S1x1024x128 : Shape := ⟨3, ![1, 1024, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 29
  | .vmem => 38
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3072, .f32⟩
  | .hbm, ⟨3, _⟩ => ⟨S1x512x2048, .f32⟩
  | .hbm, ⟨4, _⟩ => ⟨S1x512x1024, .f32⟩
  | .hbm, ⟨5, _⟩ => ⟨S1x1024x1024, .f32⟩
  | .hbm, ⟨6, _⟩ => ⟨S1x1024x4096, .f32⟩
  | .hbm, ⟨7, _⟩ => ⟨S1x4096x1024, .f32⟩
  | .hbm, ⟨8, _⟩ => ⟨S1x1024x1024, .f32⟩
  | .hbm, ⟨9, _⟩ => ⟨S32768x1024, .f32⟩
  | .hbm, ⟨10, _⟩ => ⟨S1024, .f32⟩
  | .hbm, ⟨11, _⟩ => ⟨S1x1024, .f32⟩
  | .hbm, ⟨12, _⟩ => ⟨S1024x3072, .f32⟩
  | .hbm, ⟨13, _⟩ => ⟨S512x2048, .f32⟩
  | .hbm, ⟨14, _⟩ => ⟨S512x1024, .f32⟩
  | .hbm, ⟨15, _⟩ => ⟨S1024x1024, .f32⟩
  | .hbm, ⟨16, _⟩ => ⟨S1024x4096, .f32⟩
  | .hbm, ⟨17, _⟩ => ⟨S4096x1024, .f32⟩
  | .hbm, ⟨18, _⟩ => ⟨S1024x1024, .f32⟩
  | .hbm, ⟨19, _⟩ => ⟨S32768x512, .bf16⟩
  | .hbm, ⟨20, _⟩ => ⟨S16x8x256x512, .bf16⟩
  | .hbm, ⟨21, _⟩ => ⟨S32768x1024, .bf16⟩
  | .hbm, ⟨22, _⟩ => ⟨S32768x1024, .bf16⟩
  | .hbm, ⟨23, _⟩ => ⟨S512x2048, .bf16⟩
  | .hbm, ⟨24, _⟩ => ⟨S512x1024, .bf16⟩
  | .hbm, ⟨25, _⟩ => ⟨S1024x1024, .bf16⟩
  | .hbm, ⟨26, _⟩ => ⟨S1024x4096, .bf16⟩
  | .hbm, ⟨27, _⟩ => ⟨S4096x1024, .bf16⟩
  | .hbm, ⟨28, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .f32⟩
  | .local _ .vmem, ⟨4, _⟩ => ⟨S16x2048, .f32⟩
  | .local _ .vmem, ⟨5, _⟩ => ⟨S16x2048, .f32⟩
  | .local _ .vmem, ⟨6, _⟩ => ⟨S16x1024, .f32⟩
  | .local _ .vmem, ⟨7, _⟩ => ⟨S16x1024, .f32⟩
  | .local _ .vmem, ⟨8, _⟩ => ⟨S32x1024, .f32⟩
  | .local _ .vmem, ⟨9, _⟩ => ⟨S32x1024, .f32⟩
  | .local _ .vmem, ⟨10, _⟩ => ⟨S32x4096, .f32⟩
  | .local _ .vmem, ⟨11, _⟩ => ⟨S32x4096, .f32⟩
  | .local _ .vmem, ⟨12, _⟩ => ⟨S128x1024, .f32⟩
  | .local _ .vmem, ⟨13, _⟩ => ⟨S128x1024, .f32⟩
  | .local _ .vmem, ⟨14, _⟩ => ⟨S32x1024, .f32⟩
  | .local _ .vmem, ⟨15, _⟩ => ⟨S32x1024, .f32⟩
  | .local _ .vmem, ⟨16, _⟩ => ⟨S1024x512, .bf16⟩
  | .local _ .vmem, ⟨17, _⟩ => ⟨S1024x512, .bf16⟩
  | .local _ .vmem, ⟨18, _⟩ => ⟨S1x8x128x512, .bf16⟩
  | .local _ .vmem, ⟨19, _⟩ => ⟨S1x8x128x512, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S16x2048, .bf16⟩
  | .local _ .vmem, ⟨25, _⟩ => ⟨S16x2048, .bf16⟩
  | .local _ .vmem, ⟨26, _⟩ => ⟨S16x1024, .bf16⟩
  | .local _ .vmem, ⟨27, _⟩ => ⟨S16x1024, .bf16⟩
  | .local _ .vmem, ⟨28, _⟩ => ⟨S32x1024, .bf16⟩
  | .local _ .vmem, ⟨29, _⟩ => ⟨S32x1024, .bf16⟩
  | .local _ .vmem, ⟨30, _⟩ => ⟨S32x4096, .bf16⟩
  | .local _ .vmem, ⟨31, _⟩ => ⟨S32x4096, .bf16⟩
  | .local _ .vmem, ⟨32, _⟩ => ⟨S128x1024, .bf16⟩
  | .local _ .vmem, ⟨33, _⟩ => ⟨S128x1024, .bf16⟩
  | .local _ .vmem, ⟨34, _⟩ => ⟨S32x1024, .bf16⟩
  | .local _ .vmem, ⟨35, _⟩ => ⟨S32x1024, .bf16⟩
  | .local _ .vmem, ⟨36, _⟩ => ⟨S4x1024x128, .f32⟩
  | .local _ .vmem, ⟨37, _⟩ => ⟨S1024x3072, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v10_6 : Ref sig .tc := ⟨.hbm, 25, rfl⟩
abbrev main_v10_7 : Ref sig .tc := ⟨.hbm, 26, rfl⟩
abbrev main_v10_8 : Ref sig .tc := ⟨.hbm, 27, rfl⟩
abbrev main_v10_9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S16x2048x1024 : Shape := ⟨3, ![16, 2048, 1024]⟩
abbrev S1x1024 : Shape := ⟨2, ![1, 1024]⟩
abbrev S1x1024x3072 : Shape := ⟨3, ![1, 1024, 3072]⟩
abbrev S1x512x2048 : Shape := ⟨3, ![1, 512, 2048]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3072 : Shape := ⟨2, ![1024, 3072]⟩
abbrev S16x2048x3072 : Shape := ⟨3, ![16, 2048, 3072]⟩
abbrev S16x2048x512 : Shape := ⟨3, ![16, 2048, 512]⟩
abbrev S16x256x8x512 : Shape := ⟨4, ![16, 256, 8, 512]⟩
abbrev S16x8x256x512 : Shape := ⟨4, ![16, 8, 256, 512]⟩
abbrev S32768x512 : Shape := ⟨2, ![32768, 512]⟩
abbrev S32768x1024 : Shape := ⟨2, ![32768, 1024]⟩
abbrev S512x2048 : Shape := ⟨2, ![512, 2048]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3072, .f32⟩
  | .hbm, ⟨3, _⟩ => ⟨S1x512x2048, .f32⟩
  | .hbm, ⟨4, _⟩ => ⟨S1x512x1024, .f32⟩
  | .hbm, ⟨5, _⟩ => ⟨S1x1024x1024, .f32⟩
  | .hbm, ⟨6, _⟩ => ⟨S1x1024x4096, .f32⟩
  | .hbm, ⟨7, _⟩ => ⟨S1x4096x1024, .f32⟩
  | .hbm, ⟨8, _⟩ => ⟨S1x1024x1024, .f32⟩
  | .hbm, ⟨9, _⟩ => ⟨S1024, .f32⟩
  | .hbm, ⟨10, _⟩ => ⟨S16x2048x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S1024x3072, .f32⟩
  | .hbm, ⟨27, _⟩ => ⟨S16x2048x3072, .f32⟩
  | .hbm, ⟨28, _⟩ => ⟨S16x2048x512, .f32⟩
  | .hbm, ⟨29, _⟩ => ⟨S16x2048x512, .f32⟩
  | .hbm, ⟨30, _⟩ => ⟨S16x2048x1024, .f32⟩
  | .hbm, ⟨31, _⟩ => ⟨S16x2048x1024, .f32⟩
  | .hbm, ⟨32, _⟩ => ⟨S16x256x8x512, .f32⟩
  | .hbm, ⟨33, _⟩ => ⟨S16x8x256x512, .f32⟩
  | .hbm, ⟨34, _⟩ => ⟨S16x2048x512, .bf16⟩
  | .hbm, ⟨35, _⟩ => ⟨S32768x512, .bf16⟩
  | .hbm, ⟨36, _⟩ => ⟨S16x8x256x512, .bf16⟩
  | .hbm, ⟨37, _⟩ => ⟨S16x2048x1024, .bf16⟩
  | .hbm, ⟨38, _⟩ => ⟨S32768x1024, .bf16⟩
  | .hbm, ⟨39, _⟩ => ⟨S16x2048x1024, .bf16⟩
  | .hbm, ⟨40, _⟩ => ⟨S32768x1024, .bf16⟩
  | .hbm, ⟨41, _⟩ => ⟨S512x2048, .f32⟩
  | .hbm, ⟨42, _⟩ => ⟨S512x2048, .bf16⟩
  | .hbm, ⟨43, _⟩ => ⟨S512x1024, .f32⟩
  | .hbm, ⟨44, _⟩ => ⟨S512x1024, .bf16⟩
  | .hbm, ⟨45, _⟩ => ⟨S1024x1024, .f32⟩
  | .hbm, ⟨46, _⟩ => ⟨S1024x1024, .bf16⟩
  | .hbm, ⟨47, _⟩ => ⟨S1024x4096, .f32⟩
  | .hbm, ⟨48, _⟩ => ⟨S1024x4096, .bf16⟩
  | .hbm, ⟨49, _⟩ => ⟨S4096x1024, .f32⟩
  | .hbm, ⟨50, _⟩ => ⟨S4096x1024, .bf16⟩
  | .hbm, ⟨51, _⟩ => ⟨S1024x1024, .f32⟩
  | .hbm, ⟨52, _⟩ => ⟨S1024x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Proof.Fnet.Spec.lean ====
module

public import Idealize.ShloMosaic.Lib.Pointwise

@[expose] public section

/-! # The radix-8 form of the transform, over the real numbers

A sequence of 2048 rows is cut by residue modulo 8: row `8 t + s` is row `t` of part `s`. Part `s` is transformed
over its 256 rows (`part`), the result is turned by the angle `2π s r / 2048` (`turnRe`, `turnIm`), and the eight turned
values are combined by a transform of length eight (`combine`). -/

noncomputable section

namespace Cert.Fnet

/-- A finite sum of reals, read in the extended reals, is the extended real of the sum. -/
theorem sum_coe {n : ℕ} (f : Fin n → ℝ) : ∑ x, ((f x : ℝ) : EReal) = ((∑ x, f x : ℝ) : EReal) := by
  induction n with
  | zero => simp
  | succ n ih => rw [Fin.sum_univ_succ, Fin.sum_univ_succ, ih, EReal.coe_add]

/-- Part `s` of the rows `z`, multiplied from the left by row `a` of the matrix `w`. -/
def part (w z : ℕ → ℕ → ℝ) (s a b : ℕ) : ℝ := ∑ t : Fin 256, w a t.val * z (256 * s + t.val) b

/-- cos (n π / 4). -/
def cos8 (n : ℕ) : ℝ := if n % 8 = 0 then 1 else if n % 8 = 1 then (√2)⁻¹ else if n % 8 = 2 then 0 else
  if n % 8 = 3 then -(√2)⁻¹ else if n % 8 = 4 then -1 else if n % 8 = 5 then -(√2)⁻¹ else if n % 8 = 6 then 0 else (√2)⁻¹

/-- sin (n π / 4). -/
def sin8 (n : ℕ) : ℝ := cos8 (n + 6)

/-- The real part of part `s` at row `r` and column `k`, before it is turned. The columns of `z` hold real parts (first half)
    and imaginary parts (second half); the rows of `w` hold cosines (first half) and sines (second half). Half 0 of the result
    holds the low bins, half 1 their mirror images; in a column divisible by 64 the second half of `z` holds a bin of its own. -/
def partRe (w z : ℕ → ℕ → ℝ) (j s r k : ℕ) : ℝ :=
  if j = 0 then part w z s r k + (if k % 64 = 0 then 0 else part w z s (256 + r) (256 + k))
  else if k % 64 = 0 then part w z s r (256 + k) else part w z s r k - part w z s (256 + r) (256 + k)

/-- The imaginary part beside `partRe`. -/
def partIm (w z : ℕ → ℕ → ℝ) (j s r k : ℕ) : ℝ :=
  if j = 0 then (if k % 64 = 0 then 0 else part w z s r (256 + k)) - part w z s (256 + r) k
  else -(if k % 64 = 0 then part w z s (256 + r) (256 + k) else part w z s (256 + r) k + part w z s r (256 + k))

/-- The real part turned by the angle whose cosine and sine are `tc s r` and `ts s r`. -/
def turnRe (w z : ℕ → ℕ → ℝ) (tc ts : ℕ → ℕ → ℝ) (j s r k : ℕ) : ℝ :=
  tc s r * partRe w z j s r k + ts s r * partIm w z j s r k

/-- The imaginary part turned by that angle. -/
def turnIm (w z : ℕ → ℕ → ℝ) (tc ts : ℕ → ℕ → ℝ) (j s r k : ℕ) : ℝ :=
  tc s r * partIm w z j s r k - ts s r * partRe w z j s r k

/-- The real part of row `256 q + r` of the whole transform, from the eight turned parts. -/
def combine (w z : ℕ → ℕ → ℝ) (tc ts : ℕ → ℕ → ℝ) (j q r k : ℕ) : ℝ :=
  ∑ s : Fin 8, (turnRe w z tc ts j s.val r k * cos8 (s.val * q) + turnIm w z tc ts j s.val r k * sin8 (s.val * q))

end Cert.Fnet

end
-- ==== Proof.Fnet.Transform.lean ====
module

public import proofs.«01_k».proof.Proof.Fnet.Spec
public import Mathlib.Analysis.SpecialFunctions.Trigonometric.Basic
public import Mathlib.Algebra.BigOperators.Fin

@[expose] public section

/-! # The transform over the real numbers: its radix-8 form equals its plain form

The plain form: over each group of 128 channels the cosine and sine sums `chanCos` and `chanSin`, then over the 2048 rows
the real part `mixed`. The radix-8 form: `combine` over the tables the kernel is launched with. -/

noncomputable section

namespace Cert.Fnet

/-- The channel transform of a pair of groups. Row: group and channel; column: real or imaginary part, group and bin. The
    imaginary part of bin 0 is zero, and its column holds the real part of bin 64 instead. -/
def pairTab (a b : ℕ) : ℝ :=
  if a / 128 = b / 64 % 2 then
    (if b / 128 = 0 then Real.cos ((a % 128 : ℕ) * (b % 64 : ℕ) * (Real.pi * (2 / 128)))
      else if b % 64 = 0 then Real.cos ((a % 128 : ℕ) * Real.pi)
      else -Real.sin ((a % 128 : ℕ) * (b % 64 : ℕ) * (Real.pi * (2 / 128)))) * (√128)⁻¹
  else 0

/-- The transform over 256 rows: cosines above sines. -/
def seqTab (a b : ℕ) : ℝ :=
  (if a < 256 then Real.cos (a * b * (Real.pi * (2 / 256))) else Real.sin ((a - 256 : ℕ) * b * (Real.pi * (2 / 256)))) * (√2048)⁻¹

/-- The angle part `s` is turned by at row `r`, -/
def turnAng (s r : ℕ) : ℝ := s * r * (Real.pi * (2 / 2048))
/-- its cosine -/
def turnCos (s r : ℕ) : ℝ := Real.cos (turnAng s r)
/-- and its sine. -/
def turnSin (s r : ℕ) : ℝ := Real.sin (turnAng s r)

/-- The cosine sum over the channels of group `g` in row `n`, at bin `k`, -/
def chanCos (x : ℕ → ℕ → ℝ) (g k n : ℕ) : ℝ := ∑ c : Fin 128, x n (128 * g + c.val) * Real.cos (c.val * k * (Real.pi * (2 / 128)))
/-- and the sine sum. -/
def chanSin (x : ℕ → ℕ → ℝ) (g k n : ℕ) : ℝ := ∑ c : Fin 128, x n (128 * g + c.val) * Real.sin (c.val * k * (Real.pi * (2 / 128)))

/-- The real part of the transform over rows and channels, at row `m`, group `g`, bin `k`. -/
def mixed (x : ℕ → ℕ → ℝ) (m g k : ℕ) : ℝ :=
  ((∑ n : Fin 2048, Real.cos (m * n.val * (Real.pi * (2 / 2048))) * chanCos x g k n.val)
    - ∑ n : Fin 2048, Real.sin (m * n.val * (Real.pi * (2 / 2048))) * chanSin x g k n.val) * (1 / 512)

/-- The bin in column `k` of half `j`: the low bins, then bin 64 and the bins from 127 down. -/
def binOf (j k : ℕ) : ℕ := if j = 0 then k % 64 else if k % 64 = 0 then 64 else 128 - k % 64

/-- Row `a` of the rows sorted by residue is row `8 (a mod 256) + a / 256`; column `b` is the channel transform's. -/
def chanOf (x : ℕ → ℕ → ℝ) (a b : ℕ) : ℝ :=
  ∑ l : Fin 256, x (8 * (a % 256) + a / 256) (256 * (b % 256 / 128) + l.val) * pairTab l.val (128 * (b / 256) + b % 128)

/-- The table of eight cosines is the cosine. -/
theorem cos8_eq (n : ℕ) : cos8 n = Real.cos (n * (Real.pi / 4)) := by
  have hs : (√2 : ℝ)⁻¹ = √2 / 2 := by
    have h : (√2 : ℝ) * √2 = 2 := Real.mul_self_sqrt (by norm_num)
    have h0 : (√2 : ℝ) ≠ 0 := by positivity
    field_simp
    nlinarith
  have e : Real.cos (n * (Real.pi / 4)) = Real.cos ((n % 8 : ℕ) * (Real.pi / 4)) := by
    conv_lhs => rw [← Nat.mod_add_div n 8]
    rw [← Real.cos_add_nat_mul_two_pi ((n % 8 : ℕ) * (Real.pi / 4)) (n / 8)]
    congr 1
    push_cast
    ring
  rw [e]
  have h : n % 8 < 8 := Nat.mod_lt _ (by norm_num)
  unfold cos8
  generalize n % 8 = k at h
  interval_cases k
  · simp
  · simp [hs, Real.cos_pi_div_four]
  · rw [show ((2 : ℕ) : ℝ) * (Real.pi / 4) = Real.pi / 2 by push_cast; ring, Real.cos_pi_div_two]; rfl
  · rw [show ((3 : ℕ) : ℝ) * (Real.pi / 4) = Real.pi - Real.pi / 4 by push_cast; ring, Real.cos_pi_sub, Real.cos_pi_div_four]; simp [hs]
  · rw [show ((4 : ℕ) : ℝ) * (Real.pi / 4) = Real.pi by push_cast; ring, Real.cos_pi]; rfl
  · rw [show ((5 : ℕ) : ℝ) * (Real.pi / 4) = Real.pi / 4 + Real.pi by push_cast; ring, Real.cos_add_pi, Real.cos_pi_div_four]; simp [hs]
  · rw [show ((6 : ℕ) : ℝ) * (Real.pi / 4) = Real.pi / 2 + Real.pi by push_cast; ring, Real.cos_add_pi, Real.cos_pi_div_two]; simp
  · rw [show ((7 : ℕ) : ℝ) * (Real.pi / 4) = 2 * Real.pi - Real.pi / 4 by push_cast; ring, Real.cos_two_pi_sub, Real.cos_pi_div_four]; simp [hs]

/-- The table of eight sines is the sine. -/
theorem sin8_eq (n : ℕ) : sin8 n = Real.sin (n * (Real.pi / 4)) := by
  rw [sin8, cos8_eq, show ((n + 6 : ℕ) : ℝ) * (Real.pi / 4) = (n * (Real.pi / 4) - Real.pi / 2) + 2 * Real.pi by push_cast; ring,
    Real.cos_add_two_pi, Real.cos_sub_pi_div_two]

/-- The channel transform of one column, over its own group's 128 channels. -/
theorem chanOf_eq (x : ℕ → ℕ → ℝ) (p s t k : ℕ) (hp : p < 2) (ht : t < 256) (hk : k < 256) :
    chanOf x (256 * s + t) (256 * p + k)
      = (∑ c : Fin 128, x (8 * t + s) (128 * (k / 64) + c.val) *
          (if p = 0 then Real.cos (c.val * (k % 64 : ℕ) * (Real.pi * (2 / 128)))
            else if k % 64 = 0 then Real.cos (c.val * Real.pi) else -Real.sin (c.val * (k % 64 : ℕ) * (Real.pi * (2 / 128))))) * (√128)⁻¹ := by
  have e1 : (256 * s + t) % 256 = t := by omega
  have e2 : (256 * s + t) / 256 = s := by omega
  have e3 : (256 * p + k) % 256 = k := by omega
  have e4 : (256 * p + k) / 256 = p := by omega
  have e5 : (256 * p + k) % 128 = k % 128 := by omega
  have e6 : (128 * p + k % 128) / 64 % 2 = k / 64 % 2 := by omega
  have e7 : (128 * p + k % 128) / 128 = p := by omega
  have e8 : (128 * p + k % 128) % 64 = k % 64 := by omega
  unfold chanOf pairTab
  rw [e1, e2, e3, e4, e5, e6, e7, e8]
  rw [show (∑ l : Fin 256, _ : ℝ) = _ from Fin.sum_univ_add (a := 128) (b := 128) _]
  have f1 : ∀ c : Fin 128, c.val / 128 = 0 ∧ c.val % 128 = c.val := fun c => by omega
  have f2 : ∀ c : Fin 128, (128 + c.val) / 128 = 1 ∧ (128 + c.val) % 128 = c.val := fun c => by omega
  simp only [Fin.val_castAdd, Fin.val_natAdd, f1, f2]
  rcases Nat.mod_two_eq_zero_or_one (k / 64) with h | h
  · rw [h, Finset.sum_mul]
    simp only [one_ne_zero, if_true, if_false, mul_zero, Finset.sum_const_zero, add_zero]
    refine Finset.sum_congr rfl fun c _ => ?_
    rw [show 256 * (k / 128) + c.val = 128 * (k / 64) + c.val by omega]
    exact (mul_assoc _ _ _).symm
  · rw [h, Finset.sum_mul]
    simp only [zero_ne_one, if_true, if_false, mul_zero, Finset.sum_const_zero, zero_add]
    refine Finset.sum_congr rfl fun c _ => ?_
    rw [show 256 * (k / 128) + (128 + c.val) = 128 * (k / 64) + c.val by omega]
    exact (mul_assoc _ _ _).symm

/-- The first half of its columns holds the cosine sum of the bin in column `k` of either half (but for bin 64); -/
theorem chanOf_re (x : ℕ → ℕ → ℝ) (j s t k : ℕ) (hj : j < 2) (h : j = 0 ∨ k % 64 ≠ 0) (ht : t < 256) (hk : k < 256) :
    chanOf x (256 * s + t) k = chanCos x (k / 64) (binOf j k) (8 * t + s) * (√128)⁻¹ := by
  have := chanOf_eq x 0 s t k (by norm_num) ht hk
  rw [Nat.mul_zero, Nat.zero_add] at this
  rw [this, chanCos]
  congr 1
  refine Finset.sum_congr rfl fun c _ => ?_
  rw [if_pos rfl]
  congr 1
  unfold binOf
  split_ifs with h0 h1
  · rfl
  · omega
  · rw [← Real.cos_neg, ← Real.cos_add_nat_mul_two_pi _ c.val, Nat.cast_sub (by omega)]
    congr 1
    push_cast
    ring

/-- the second half holds bin 64 in the columns divisible by 64, -/
theorem chanOf_mid (x : ℕ → ℕ → ℝ) (s t k : ℕ) (h : k % 64 = 0) (ht : t < 256) (hk : k < 256) :
    chanOf x (256 * s + t) (256 + k) = chanCos x (k / 64) (binOf 1 k) (8 * t + s) * (√128)⁻¹ := by
  have := chanOf_eq x 1 s t k (by norm_num) ht hk
  rw [Nat.mul_one] at this
  rw [this, chanCos]
  congr 1
  refine Finset.sum_congr rfl fun c _ => ?_
  rw [if_neg one_ne_zero, if_pos h]
  congr 2
  rw [binOf, if_neg one_ne_zero, if_pos h]
  push_cast
  ring

/-- and the sine sum elsewhere: negated for a low bin, -/
theorem chanOf_im (x : ℕ → ℕ → ℝ) (s t k : ℕ) (h : k % 64 ≠ 0) (ht : t < 256) (hk : k < 256) :
    chanOf x (256 * s + t) (256 + k) = -chanSin x (k / 64) (binOf 0 k) (8 * t + s) * (√128)⁻¹ := by
  have := chanOf_eq x 1 s t k (by norm_num) ht hk
  rw [Nat.mul_one] at this
  rw [this, chanSin, ← Finset.sum_neg_distrib]
  congr 1
  refine Finset.sum_congr rfl fun c _ => ?_
  rw [if_neg one_ne_zero, if_neg h, mul_neg]
  rfl

/-- itself for its mirror image. -/
theorem chanSin_mirror (x : ℕ → ℕ → ℝ) (n k : ℕ) (h : k % 64 ≠ 0) :
    chanSin x (k / 64) (binOf 1 k) n = -chanSin x (k / 64) (binOf 0 k) n := by
  rw [chanSin, chanSin, ← Finset.sum_neg_distrib]
  refine Finset.sum_congr rfl fun c _ => ?_
  rw [← mul_neg, ← Real.sin_neg, binOf, binOf, if_neg one_ne_zero, if_neg h, if_pos rfl, ← Real.sin_add_nat_mul_two_pi (-_) c.val,
    Nat.cast_sub (by omega)]
  congr 2
  push_cast
  ring

/-- The sine sums of bins 0 and 64 vanish. -/
theorem chanSin_zero (x : ℕ → ℕ → ℝ) (j n k : ℕ) (h : k % 64 = 0) : chanSin x (k / 64) (binOf j k) n = 0 := by
  rw [chanSin]
  refine Finset.sum_eq_zero fun c _ => ?_
  rw [binOf, h, if_pos rfl]
  split_ifs
  · simp
  · rw [show (c.val : ℝ) * (64 : ℕ) * (Real.pi * (2 / 128)) = c.val * Real.pi by push_cast; ring, Real.sin_nat_mul_pi, mul_zero]

theorem scale (a b : ℝ) : a * (√2048)⁻¹ * (b * (√128)⁻¹) = a * b * (1 / 512) := by
  have h : (√2048 : ℝ) * √128 = 512 := by
    rw [← Real.sqrt_mul (by norm_num), show (2048 : ℝ) * 128 = 512 * 512 by norm_num, Real.sqrt_mul_self (by norm_num)]
  rw [show a * (√2048)⁻¹ * (b * (√128)⁻¹) = a * b * ((√2048 : ℝ) * √128)⁻¹ by rw [mul_inv]; ring, h, one_div]

/-- The angle of row `r` of a part's transform at its row `t`. -/
def ang (r t : ℕ) : ℝ := r * t * (Real.pi * (2 / 256))

/-- A part's transform with the table's cosines, -/
theorem part_cos (x : ℕ → ℕ → ℝ) (f : ℕ → ℝ) (s r b : ℕ) (hr : r < 256) (h : ∀ t < 256, chanOf x (256 * s + t) b = f (8 * t + s) * (√128)⁻¹) :
    part seqTab (chanOf x) s r b = (∑ t : Fin 256, Real.cos (ang r t.val) * f (8 * t.val + s)) * (1 / 512) := by
  rw [part, Finset.sum_mul]
  refine Finset.sum_congr rfl fun t _ => ?_
  rw [h _ t.isLt, seqTab, if_pos hr, scale]
  rfl
/-- and with its sines. -/
theorem part_sin (x : ℕ → ℕ → ℝ) (f : ℕ → ℝ) (s r b : ℕ) (h : ∀ t < 256, chanOf x (256 * s + t) b = f (8 * t + s) * (√128)⁻¹) :
    part seqTab (chanOf x) s (256 + r) b = (∑ t : Fin 256, Real.sin (ang r t.val) * f (8 * t.val + s)) * (1 / 512) := by
  rw [part, Finset.sum_mul]
  refine Finset.sum_congr rfl fun t _ => ?_
  rw [h _ t.isLt, seqTab, if_neg (by omega), scale, Nat.add_sub_cancel_left]
  rfl

/-- The real part of part `s` at row `r`, in terms of the cosine and sine sums of its bin, -/
theorem partRe_eq (x : ℕ → ℕ → ℝ) (j s r k : ℕ) (hj : j < 2) (hr : r < 256) (hk : k < 256) :
    partRe seqTab (chanOf x) j s r k = (∑ t : Fin 256, (Real.cos (ang r t.val) * chanCos x (k / 64) (binOf j k) (8 * t.val + s)
      - Real.sin (ang r t.val) * chanSin x (k / 64) (binOf j k) (8 * t.val + s))) * (1 / 512) := by
  rw [Finset.sum_sub_distrib, sub_mul]
  unfold partRe
  by_cases h : k % 64 = 0
  · simp only [chanSin_zero x j _ k h, mul_zero, Finset.sum_const_zero, zero_mul, sub_zero, h, if_true, add_zero]
    split_ifs with h0
    · subst h0
      exact part_cos x _ s r k hr fun t ht => chanOf_re x 0 s t k hj (.inl rfl) ht hk
    · obtain rfl : j = 1 := by omega
      exact part_cos x _ s r _ hr fun t ht => chanOf_mid x s t k h ht hk
  · simp only [h, if_false]
    rw [part_cos x _ s r k hr fun t ht => chanOf_re x j s t k hj (.inr h) ht hk,
      part_sin x (fun n => -chanSin x (k / 64) (binOf 0 k) n) s r _ fun t ht => chanOf_im x s t k h ht hk]
    split_ifs with h0
    · subst h0
      simp only [mul_neg, Finset.sum_neg_distrib, neg_mul, sub_eq_add_neg]
    · obtain rfl : j = 1 := by omega
      simp only [chanSin_mirror x _ k h]
/-- and the imaginary part. -/
theorem partIm_eq (x : ℕ → ℕ → ℝ) (j s r k : ℕ) (hj : j < 2) (hr : r < 256) (hk : k < 256) :
    partIm seqTab (chanOf x) j s r k = -(∑ t : Fin 256, (Real.cos (ang r t.val) * chanSin x (k / 64) (binOf j k) (8 * t.val + s)
      + Real.sin (ang r t.val) * chanCos x (k / 64) (binOf j k) (8 * t.val + s))) * (1 / 512) := by
  rw [Finset.sum_add_distrib, neg_mul, add_mul]
  unfold partIm
  by_cases h : k % 64 = 0
  · simp only [chanSin_zero x j _ k h, mul_zero, Finset.sum_const_zero, zero_mul, zero_add, h, if_true, zero_sub]
    split_ifs with h0
    · subst h0
      rw [part_sin x _ s r k fun t ht => chanOf_re x 0 s t k hj (.inl rfl) ht hk]
    · obtain rfl : j = 1 := by omega
      rw [part_sin x _ s r _ fun t ht => chanOf_mid x s t k h ht hk]
  · simp only [h, if_false]
    rw [part_sin x _ s r k fun t ht => chanOf_re x j s t k hj (.inr h) ht hk,
      part_cos x (fun n => -chanSin x (k / 64) (binOf 0 k) n) s r _ hr fun t ht => chanOf_im x s t k h ht hk]
    split_ifs with h0
    · subst h0
      simp only [mul_neg, Finset.sum_neg_distrib, neg_mul]
      ring
    · obtain rfl : j = 1 := by omega
      simp only [chanSin_mirror x _ k h]
      ring

/-- The radix-8 form is the plain form. -/
theorem combine_eq (x : ℕ → ℕ → ℝ) (j q r k : ℕ) (hj : j < 2) (hr : r < 256) (hk : k < 256) :
    combine seqTab (chanOf x) turnCos turnSin j q r k = mixed x (256 * q + r) (k / 64) (binOf j k) := by
  unfold mixed
  rw [← Finset.sum_sub_distrib]
  generalize hA : chanCos x (k / 64) (binOf j k) = A
  generalize hB : chanSin x (k / 64) (binOf j k) = B
  have key : ∀ s t : ℕ, Real.cos ((256 * q + r : ℕ) * (8 * t + s : ℕ) * (Real.pi * (2 / 2048)))
        = Real.cos (turnAng s r + ang r t + (s * q : ℕ) * (Real.pi / 4))
      ∧ Real.sin ((256 * q + r : ℕ) * (8 * t + s : ℕ) * (Real.pi * (2 / 2048)))
        = Real.sin (turnAng s r + ang r t + (s * q : ℕ) * (Real.pi / 4)) := fun s t => by
    have e : ((256 * q + r : ℕ) : ℝ) * (8 * t + s : ℕ) * (Real.pi * (2 / 2048))
        = turnAng s r + ang r t + (s * q : ℕ) * (Real.pi / 4) + (q * t : ℕ) * (2 * Real.pi) := by
      unfold turnAng ang
      push_cast
      ring
    rw [e, Real.cos_add_nat_mul_two_pi, Real.sin_add_nat_mul_two_pi]
    exact ⟨rfl, rfl⟩
  have re : ∑ n : Fin 2048, (Real.cos ((256 * q + r : ℕ) * n.val * (Real.pi * (2 / 2048))) * A n.val
        - Real.sin ((256 * q + r : ℕ) * n.val * (Real.pi * (2 / 2048))) * B n.val)
      = ∑ s : Fin 8, ∑ t : Fin 256, (Real.cos (turnAng s.val r + ang r t.val + (s.val * q : ℕ) * (Real.pi / 4)) * A (8 * t.val + s.val)
        - Real.sin (turnAng s.val r + ang r t.val + (s.val * q : ℕ) * (Real.pi / 4)) * B (8 * t.val + s.val)) := by
    rw [Finset.sum_comm, ← Fintype.sum_prod_type', ← (finProdFinEquiv (m := 256) (n := 8)).sum_comp]
    refine Finset.sum_congr rfl fun p _ => ?_
    rw [finProdFinEquiv_apply_val, Nat.add_comm p.2.val, (key _ _).1, (key _ _).2]
  rw [re, Finset.sum_mul]
  unfold combine
  refine Finset.sum_congr rfl fun s _ => ?_
  rw [cos8_eq, sin8_eq]
  unfold turnRe turnIm
  rw [partRe_eq x j s.val r k hj hr hk, partIm_eq x j s.val r k hj hr hk, hA, hB]
  simp only [Finset.sum_mul, Finset.mul_sum, ← Finset.sum_neg_distrib, ← Finset.sum_add_distrib, ← Finset.sum_sub_distrib]
  refine Finset.sum_congr rfl fun t _ => ?_
  simp only [Real.cos_add, Real.sin_add]
  unfold turnCos turnSin
  ring

end Cert.Fnet

end
-- ==== Proof.Fnet.Result.lean ====
module

public import proofs.«01_k».proof.Proof.Fnet.Transform
public import Idealize.ShloMosaic.Lib.Pointwise

@[expose] public section

/-! # The result both programs compute, over an argument of real numbers -/

noncomputable section

namespace Cert.Fnet

open Idealize.ShloMosaic

/-- The rows of one sequence of the argument, as real numbers. -/
def rowsOf (a : Vec Ideal ⟨3, ![16, 2048, 512]⟩ .bf16) (b : ℕ) (n l : ℕ) : ℝ :=
  if h : b < 16 ∧ n < 2048 ∧ l < 512 then (a (ix3 ⟨b, h.1⟩ ⟨n, h.2.1⟩ ⟨l, h.2.2⟩)).toReal else 0

/-- The result array over the argument's reals. -/
def result (a : Vec Ideal ⟨3, ![16, 2048, 512]⟩ .bf16) : Vec Ideal ⟨3, ![8, 2048, 512]⟩ .bf16 := fun y =>
  ((mixed (rowsOf a (y 0).val) (y 1).val ((y 2).val % 256 / 64) (binOf ((y 2).val / 256) ((y 2).val % 256)) : ℝ) : EReal)

end Cert.Fnet

end
-- ==== Proof.Fnet.Words.lean ====
module

public import Idealize.ShloMosaic.Lib.Pointwise
public import Mathlib.Analysis.SpecialFunctions.Trigonometric.Arctan

@[expose] public section

/-! # Integer words and literals read as real numbers -/

noncomputable section

namespace Cert.Fnet

open Idealize.ShloMosaic

/-- A natural number below `2 ^ 31`, as a 32-bit word and then as a float. -/
theorem word_nat (p : ℕ) (h : p < 2 ^ 31) : (FloatOps.sitofp .f32 (BitVec.ofNat 32 p) : Ideal .f32) = ((p : ℝ) : EReal) := by
  show (((BitVec.ofNat 32 p).toInt : ℝ) : EReal) = _
  rw [BitVec.toInt_eq_toNat_of_lt (by rw [BitVec.toNat_ofNat]; omega), BitVec.toNat_ofNat, Nat.mod_eq_of_lt (by omega)]
  simp

/-- A product of two numbers of this size is exact as a word. -/
theorem word_mul (p q : ℕ) (h : p * q < 2 ^ 31) :
    (FloatOps.sitofp .f32 (IntOp.muli (BitVec.ofNat 32 p) (BitVec.ofNat 32 q)) : Ideal .f32) = ((p * q : ℝ) : EReal) := by
  rw [show IntOp.muli (BitVec.ofNat 32 p) (BitVec.ofNat 32 q) = BitVec.ofNat 32 (p * q) from (BitVec.ofNat_mul ..).symm,
    word_nat _ h]
  simp

/-- Its remainder by 256 too. -/
theorem word_rem (p q : ℕ) (h : p * q < 2 ^ 31) :
    (FloatOps.sitofp .f32 (IntOp.remsi .host (IntOp.muli (BitVec.ofNat 32 p) (BitVec.ofNat 32 q)) 256#32) : Ideal .f32)
      = (((p * q % 256 : ℕ) : ℝ) : EReal) := by
  rw [show IntOp.muli (BitVec.ofNat 32 p) (BitVec.ofNat 32 q) = BitVec.ofNat 32 (p * q) from (BitVec.ofNat_mul ..).symm]
  have e : IntOp.remsi .host (BitVec.ofNat 32 (p * q)) 256#32 = BitVec.ofNat 32 (p * q % 256) := by
    have hx : (BitVec.ofNat 32 (p * q)).msb = false := by
      rw [BitVec.msb_eq_false_iff_two_mul_lt, BitVec.toNat_ofNat]; omega
    unfold IntOp.remsi
    rw [if_neg (by rintro (h | h) <;> [exact absurd h (by decide); exact absurd h.2 (by decide)]), BitVec.srem_eq, hx,
      show (256#32).msb = false from rfl]
    apply BitVec.eq_of_toNat_eq
    rw [BitVec.toNat_umod, BitVec.toNat_ofNat, BitVec.toNat_ofNat, BitVec.toNat_ofNat, Nat.mod_eq_of_lt (by omega : p * q < 2 ^ 32),
      Nat.mod_eq_of_lt (by norm_num : 256 < 2 ^ 32), Nat.mod_eq_of_lt (by omega : p * q % 256 < 2 ^ 32)]
  rw [e, word_nat _ (by omega)]

/-- Two small numbers are equal as words just when they are equal. -/
theorem word_eq (p q : ℕ) (hp : p < 2 ^ 32) (hq : q < 2 ^ 32) (a b : EReal) :
    Scalar.select (IntOp.cmpi .eq (BitVec.ofNat 32 p) (BitVec.ofNat 32 q)) a b = if p = q then a else b := by
  have e : (BitVec.ofNat 32 p = BitVec.ofNat 32 q) ↔ p = q :=
    ⟨fun h => by
      have := congrArg BitVec.toNat h
      rwa [BitVec.toNat_ofNat, BitVec.toNat_ofNat, Nat.mod_eq_of_lt hp, Nat.mod_eq_of_lt hq] at this, fun h => by rw [h]⟩
  by_cases h : p = q
  · subst h; simp [Scalar.select, IntOp.cmpi]
  · have := mt e.mp h
    rw [if_neg h, IntOp.cmpi, beq_false_of_ne this]
    rfl

/-- The number four times the arc tangent of one. -/
theorem pi_eq : Ideal.ofBits .f32 0x40800000#32 * Ideal.atan 1 = ((Real.pi : ℝ) : EReal) := by
  have h4 : Ideal.ofBits .f32 0x40800000#32 = ((4 : ℝ) : EReal) := by
    simp [Ideal.ofBits, Ideal.ieee, -EReal.coe_mul]; norm_num
  rw [h4, ← EReal.coe_one, Ideal.atan_coe, Real.arctan_one, ← EReal.coe_mul]
  congr 1
  ring

theorem ofBits_64th : Ideal.ofBits .f32 1015021568#32 = ((2 / 128 : ℝ) : EReal) := by
  simp [Ideal.ofBits, Ideal.ieee, -EReal.coe_mul]; norm_num
theorem ofBits_128th : Ideal.ofBits .f32 1006632960#32 = ((2 / 256 : ℝ) : EReal) := by
  simp [Ideal.ofBits, Ideal.ieee, -EReal.coe_mul]; norm_num
theorem ofBits_1024th : Ideal.ofBits .f32 981467136#32 = ((2 / 2048 : ℝ) : EReal) := by
  simp [Ideal.ofBits, Ideal.ieee, -EReal.coe_mul]; norm_num

/-- The reciprocal square root of 128, -/
theorem rsqrt_128 : Ideal.rsqrt (Ideal.ofBits .f32 1124073472#32) = (((√128)⁻¹ : ℝ) : EReal) := by
  have h : Ideal.ofBits .f32 1124073472#32 = ((128 : ℝ) : EReal) := by
    simp [Ideal.ofBits, Ideal.ieee, -EReal.coe_mul]; norm_num
  rw [h, Ideal.rsqrt_coe, if_neg (by norm_num), if_neg (by norm_num)]
/-- and of 2048. -/
theorem rsqrt_2048 : Ideal.rsqrt (Ideal.ofBits .f32 1157627904#32) = (((√2048)⁻¹ : ℝ) : EReal) := by
  have h : Ideal.ofBits .f32 1157627904#32 = ((2048 : ℝ) : EReal) := by
    simp [Ideal.ofBits, Ideal.ieee, -EReal.coe_mul]; norm_num
  rw [h, Ideal.rsqrt_coe, if_neg (by norm_num), if_neg (by norm_num)]

/-- The cosine of a whole number of `n`-ths of a turn does not change when the number is reduced modulo `n`; -/
theorem cos_mod (p n : ℕ) (hn : n ≠ 0) : Real.cos ((p % n : ℕ) * (Real.pi * (2 / n))) = Real.cos (p * (Real.pi * (2 / n))) := by
  conv_rhs => rw [← Nat.mod_add_div p n]
  rw [← Real.cos_add_nat_mul_two_pi _ (p / n)]
  congr 1
  have : (n : ℝ) ≠ 0 := by exact_mod_cast hn
  push_cast
  field_simp
/-- nor does the sine. -/
theorem sin_mod (p n : ℕ) (hn : n ≠ 0) : Real.sin ((p % n : ℕ) * (Real.pi * (2 / n))) = Real.sin (p * (Real.pi * (2 / n))) := by
  conv_rhs => rw [← Nat.mod_add_div p n]
  rw [← Real.sin_add_nat_mul_two_pi _ (p / n)]
  congr 1
  have : (n : ℝ) ≠ 0 := by exact_mod_cast hn
  push_cast
  field_simp

end Cert.Fnet

end
-- ==== Proof.Fnet.Tables.lean ====
module

public import proofs.«01_k».proof.Proof.Gen.KernelIdeal.Value
public import proofs.«01_k».proof.Proof.Fnet.Words
public import proofs.«01_k».proof.Proof.Fnet.Transform

@[expose] public section

set_option maxRecDepth 16384

/-! # The tables the kernel is launched with, as real numbers -/

noncomputable section

namespace Cert.Fnet

open Cert.KernelIdeal Cert.KernelIdeal.Gen Idealize.ShloMosaic Idealize.ShloMosaic.TcCoe Idealize.SL.Sem

variable (m : (ℓ : Loc nD τ sig) → Buf (Elt Ideal) ℓ) (c : Dev nD)

/-- The kernel is launched with the channel transform `pairTab`, -/
theorem launch_pair (a b : Fin 256) : (V m c main_v62 : Vec Ideal S256x256 .bf16) (ix2 a b) = ((pairTab a.val b.val : ℝ) : EReal) := by
  dsimp only [V, hostOps0]
  after_results
  pointwise
  have h := Nat.mul_lt_mul_of_lt_of_lt (Nat.mod_lt a.val (by norm_num : 0 < 128)) (Nat.mod_lt b.val (by norm_num : 0 < 64))
  simp only [word_eq _ _ (show a.val / 128 < 2 ^ 32 by omega) (show b.val / 64 % 2 < 2 ^ 32 by omega),
    word_eq _ 0 (show b.val / 128 < 2 ^ 32 by omega) (by norm_num), word_eq _ 0 (show b.val % 64 < 2 ^ 32 by omega) (by norm_num),
    word_nat _ (show a.val % 128 < 2 ^ 31 by omega), word_mul _ _ (show a.val % 128 * (b.val % 64) < 2 ^ 31 by omega),
    pi_eq, ofBits_64th, rsqrt_128, ← EReal.coe_mul, Ideal.cos_coe, Ideal.sin_coe, ← EReal.coe_neg, pairTab]
  split_ifs <;> rfl

/-- the row transform `seqTab`, -/
theorem launch_seq (a : Fin 512) (b : Fin 256) : (V m c main_v63 : Vec Ideal S512x256 .bf16) (ix2 a b) = ((seqTab a.val b.val : ℝ) : EReal) := by
  dsimp only [V, hostOps0]
  after_results
  pointwise
  have h : ∀ x < 512, x * b.val < 2 ^ 31 := fun x hx => by
    have := Nat.mul_lt_mul_of_lt_of_lt hx b.isLt
    omega
  have e := fun p : ℕ => cos_mod p 256 (by norm_num)
  have e' := fun p : ℕ => sin_mod p 256 (by norm_num)
  push_cast at e e'
  simp only [word_rem _ _ (h a.val a.isLt), word_rem _ _ (h (a.val - 256) (by omega)),
    pi_eq, ofBits_128th, rsqrt_2048, ← EReal.coe_mul, Ideal.cos_coe, Ideal.sin_coe, seqTab]
  split_ifs <;> simp only [← EReal.coe_mul, Nat.cast_mul, e, e']

/-- the cosines of the turns, -/
theorem launch_cos (s : Fin 8) (r : Fin 256) (l : Fin 128) :
    (V m c main_v60 : Vec Ideal S8x256x128 .f32) (ix3 s r l) = ((turnCos s.val r.val : ℝ) : EReal) := by
  dsimp only [V, hostOps0]
  after_results
  pointwise
  have h := Nat.mul_lt_mul_of_lt_of_lt s.isLt r.isLt
  simp only [word_mul _ _ (show s.val * r.val < 2 ^ 31 by omega), pi_eq, ofBits_1024th, ← EReal.coe_mul, Ideal.cos_coe, turnCos, turnAng]

/-- their sines, -/
theorem launch_sin (s : Fin 8) (r : Fin 256) (l : Fin 128) :
    (V m c main_v61 : Vec Ideal S8x256x128 .f32) (ix3 s r l) = ((turnSin s.val r.val : ℝ) : EReal) := by
  dsimp only [V, hostOps0]
  after_results
  pointwise
  have h := Nat.mul_lt_mul_of_lt_of_lt s.isLt r.isLt
  simp only [word_mul _ _ (show s.val * r.val < 2 ^ 31 by omega), pi_eq, ofBits_1024th, ← EReal.coe_mul, Ideal.sin_coe, turnSin, turnAng]

/-- and the argument, its rows sorted by their residue modulo 8. -/
theorem launch_arg (b : Fin 16) (s : Fin 8) (r : Fin 256) (l : Fin 512) :
    (V m c main_v65 : Vec Ideal S16x8x256x512 .bf16) (ix4 b s r l)
      = (m ((c.tc : Thread nD τ).loc main_arg0) : Vec Ideal S16x2048x512 .bf16) (ix3 b ⟨r.val * 8 + s.val, by omega⟩ l) := by
  dsimp only [V, hostOps0]
  after_results
  pointwise

end Cert.Fnet

end
-- ==== Proof.Fnet.Pieces.lean ====
module

public import proofs.«01_k».proof.Proof.Gen.KernelIdeal.Value
public import proofs.«01_k».proof.Proof.Fnet.Spec
public import Idealize.ShloMosaic.Lib.Pointwise

@[expose] public section

set_option maxRecDepth 16384

/-! # What one block of the kernel holds

One grid point writes sixteen tiles of 256 rows and 256 columns. Over blocks of real numbers the tile at row block `q` and
column half `j` is `combine … j q`. -/

noncomputable section

namespace Cert.Fnet

open Cert.KernelIdeal Cert.KernelIdeal.Gen Idealize.ShloMosaic Idealize.ShloMosaic.TcCoe Idealize.SL.Sem

/-- The kernel's column mask: the columns divisible by 64. -/
theorem mask (r k : Fin 256) : k0_pay3 (ix2 r k) = if k.val % 64 = 0 then 1#1 else 0#1 := by
  pointwise [k0_pay3]
  revert k
  decide +kernel

theorem zero_sub_coe (x : ℝ) : (0 : EReal) - (x : EReal) = ((-x : ℝ) : EReal) := by
  rw [← EReal.coe_zero, ← EReal.coe_sub, zero_sub]

/-- The block's function: at row `256 q + r` and column `256 j + k` it is `combine … j q r k`. -/
def blockFn (w z tc ts : ℕ → ℕ → ℝ) (y : S1x2048x512.Idx) : Ideal .bf16 :=
  ((combine w z tc ts ((y 2).val / 256) ((y 1).val / 256) ((y 1).val % 256) ((y 2).val % 256) : ℝ) : EReal)

/-- `blockFn` at an index of one tile. -/
theorem blockFn_emb (w z tc ts : ℕ → ℕ → ℝ) (a b : ℕ) (h) (x : (⟨3, ![1, 256, 256]⟩ : Shape).Idx) :
    blockFn w z tc ts ((Rect.unit (s := S1x2048x512) ![0, a, b] ![1, 256, 256] h).emb x)
      = ((combine w z tc ts ((b + (x 2).val) / 256) ((a + (x 1).val) / 256) ((a + (x 1).val) % 256) ((b + (x 2).val) % 256) : ℝ) : EReal) := by
  unfold blockFn
  have h1 : ((Rect.unit (s := S1x2048x512) ![0, a, b] ![1, 256, 256] h).emb x 1).val = a + (x 1).val := by
    rw [Rect.emb_apply]; simp [Rect.unit]
  have h2 : ((Rect.unit (s := S1x2048x512) ![0, a, b] ![1, 256, 256] h).emb x 2).val = b + (x 2).val := by
    rw [Rect.emb_apply]; simp [Rect.unit]
  rw [h1, h2]

theorem sqrt_half : (Named.named (F := Ideal) κ "sqrt_half" 0x3F3504F3#32 : Ideal .f32) = (((√2)⁻¹ : ℝ) : EReal) :=
  IdealRules.named_const.ideal_named_scalar _ _ _ _ rfl

set_option maxHeartbeats 4000000 in
/-- What a grid point leaves in the output block, when the blocks it reads are real numbers: `blockFn`. -/
theorem out_eq
    (c : Dev nD) (i : grid0.Coords) (arg1 : Memref sig .tc .vmem S1x8x256x512 .bf16) (harg1 : arg1.IsWhole) (arg2 : Memref sig .tc .vmem S256x256 .bf16) (harg2 : arg2.IsWhole) (arg3 : Memref sig .tc .vmem S512x256 .bf16) (harg3 : arg3.IsWhole) (arg4 : Memref sig .tc .vmem S8x256x128 .f32) (harg4 : arg4.IsWhole) (arg5 : Memref sig .tc .vmem S8x256x128 .f32) (harg5 : arg5.IsWhole) (arg7 : Memref sig .tc .vmem S1x2048x512 .bf16) (harg7 : arg7.IsWhole)
    (x0 : Vec Ideal S1x8x256x512 .bf16) (x1 : Vec Ideal S256x256 .bf16) (x2 : Vec Ideal S512x256 .bf16) (x3 : Vec Ideal S8x256x128 .f32) (x4 : Vec Ideal S8x256x128 .f32)
    (w z tc ts : ℕ → ℕ → ℝ)
    (hw : ∀ (a : Fin 512) (b : Fin 256), x2 (ix2 a b) = ((w a.val b.val : ℝ) : EReal))
    (hz : ∀ (a : Fin 2048) (b : Fin 512), k0_pay4 x0 x1 x1 (ix2 a b) = ((z a.val b.val : ℝ) : EReal))
    (hc : ∀ (s : Fin 8) (r : Fin 256) (l : Fin 128), x3 (ix3 s r l) = ((tc s.val r.val : ℝ) : EReal))
    (hs : ∀ (s : Fin 8) (r : Fin 256) (l : Fin 128), x4 (ix3 s r l) = ((ts s.val r.val : ℝ) : EReal))
    (h1 : ∀ r, tc 0 r = 1) (h0 : ∀ r, ts 0 r = 0) :
    out0_A_5 c i arg1 harg1 arg2 harg2 arg3 harg3 arg4 harg4 arg5 harg5 arg7 harg7 x0 x1 x2 x3 x4 = blockFn w z tc ts := by
  have hl : ∀ h, View.ld x0 (Rect.unit (s := S1x8x256x512) ![0, 0, 0, 0] ![1, 8, 256, 512] h) = x0 := fun h => by
    funext j; idx_vars j; pointwise; rw [Subsingleton.elim j0 0]
  have hl1 : ∀ h, View.ld x1 (Rect.unit (s := S256x256) ![0, 0] ![256, 256] h) = x1 := fun h => by
    funext j; idx_vars j; pointwise
  have hl2 : ∀ h, View.ld x2 (Rect.unit (s := S512x256) ![0, 0] ![512, 256] h) = x2 := fun h => by
    funext j; idx_vars j; pointwise
  have hM := mask
  unfold out0_A_5
  rw [View.read_writes_eq_canon _ _ _ (cover0_A_5 c i arg1 harg1 arg2 harg2 arg3 harg3 arg4 harg4 arg5 harg5 arg7 harg7 x0 x1 x2 x3 x4)]
  funext y
  refine View.canon_apply_of_pieces (blockFn w z tc ts) _ ?_ y (cover0_A_5 c i arg1 harg1 arg2 harg2 arg3 harg3 arg4 harg4 arg5 harg5 arg7 harg7 x0 x1 x2 x3 x4 y)
  unfold kernelRun0_A
  dsimp only
  sl_unfold_words
  simp only [View.readAt_eq_ld, harg1.read_unread, harg2.read_unread, harg3.read_unread, harg4.read_unread, harg5.read_unread]
  simp only [hl, hl1, hl2, k0_pay6]
  clear hl hl1 hl2
  generalize k0_pay4 x0 x1 x1 = Z at hz ⊢
  generalize (k0_pay3 : IVec S256x256 1) = M at hM ⊢
  simp only [List.forall_mem_cons]
  have r0 : ∀ a b, ∑ x : Fin 256, w a x.val * z x.val b = part w z 0 a b := fun a b => by simp only [part, Nat.mul_zero, Nat.zero_add]
  have r1 : ∀ a b, ∑ x : Fin 256, w a x.val * z (256 + x.val) b = part w z 1 a b := fun _ _ => rfl
  have r2 : ∀ a b, ∑ x : Fin 256, w a x.val * z (512 + x.val) b = part w z 2 a b := fun _ _ => rfl
  have r3 : ∀ a b, ∑ x : Fin 256, w a x.val * z (768 + x.val) b = part w z 3 a b := fun _ _ => rfl
  have r4 : ∀ a b, ∑ x : Fin 256, w a x.val * z (1024 + x.val) b = part w z 4 a b := fun _ _ => rfl
  have r5 : ∀ a b, ∑ x : Fin 256, w a x.val * z (1280 + x.val) b = part w z 5 a b := fun _ _ => rfl
  have r6 : ∀ a b, ∑ x : Fin 256, w a x.val * z (1536 + x.val) b = part w z 6 a b := fun _ _ => rfl
  have r7 : ∀ a b, ∑ x : Fin 256, w a x.val * z (1792 + x.val) b = part w z 7 a b := fun _ _ => rfl
  have q : ∀ (n : ℕ) (x : Fin 256), (n * 256 + x.val) / 256 = n ∧ (n * 256 + x.val) % 256 = x.val := fun n x => by omega
  have q0 : ∀ x : Fin 256, x.val / 256 = 0 ∧ x.val % 256 = x.val := fun x => by omega
  have q1 : ∀ x : Fin 256, (256 + x.val) / 256 = 1 ∧ (256 + x.val) % 256 = x.val := q 1
  have q2 : ∀ x : Fin 256, (512 + x.val) / 256 = 2 ∧ (512 + x.val) % 256 = x.val := q 2
  have q3 : ∀ x : Fin 256, (768 + x.val) / 256 = 3 ∧ (768 + x.val) % 256 = x.val := q 3
  have q4 : ∀ x : Fin 256, (1024 + x.val) / 256 = 4 ∧ (1024 + x.val) % 256 = x.val := q 4
  have q5 : ∀ x : Fin 256, (1280 + x.val) / 256 = 5 ∧ (1280 + x.val) % 256 = x.val := q 5
  have q6 : ∀ x : Fin 256, (1536 + x.val) / 256 = 6 ∧ (1536 + x.val) % 256 = x.val := q 6
  have q7 : ∀ x : Fin 256, (1792 + x.val) / 256 = 7 ∧ (1792 + x.val) % 256 = x.val := q 7
  have sel1 : ∀ a b : EReal, Scalar.select (1#1) a b = a := fun _ _ => rfl
  have sel0 : ∀ a b : EReal, Scalar.select (0#1) a b = b := fun _ _ => rfl
  refine ⟨?_, ?_, ?_, ?_, ?_, ?_, ?_, ?_, ?_, ?_, ?_, ?_, ?_, ?_, ?_, ?_, fun _ h => nomatch h⟩
  all_goals
    intro x
    idx_vars x
    rename_i x0 x1 x2
    refine Eq.trans ?_ (blockFn_emb w z tc ts _ _ _ _).symm
    unfold_payloads
    pointwise
    simp only [hw, hz, hc, hs, hM, sqrt_half, dite_eq_ite, ite_self, Nat.zero_add, q0, q1, q2, q3, q4, q5, q6, q7]
    by_cases hk : x2.val % 64 = 0
    all_goals
      simp only [hk, if_true, if_false, sel1, sel0, add_zero, ← EReal.coe_mul, sum_coe, ← EReal.coe_add, ← EReal.coe_sub, zero_sub_coe, r0, r1, r2, r3, r4, r5, r6, r7]
      refine congrArg _ ?_
      simp [combine, Fin.sum_univ_eight, turnRe, turnIm, partRe, partIm, hk, h1, h0, cos8, sin8]
      ring

end Cert.Fnet

end
-- ==== Proof.Fnet.Array.lean ====
module

public import proofs.«01_k».proof.Proof.Fnet.Result
public import proofs.«01_k».proof.Proof.Fnet.Tables
public import proofs.«01_k».proof.Proof.Fnet.Pieces
public import Idealize.ShloMosaic.Lib.Pipeline.ValueKit

@[expose] public section

set_option maxRecDepth 16384

/-! # What the kernel's result array holds -/

noncomputable section

namespace Cert.Fnet

open Cert.KernelIdeal Cert.KernelIdeal.Gen Cert.KernelIdeal.Value Idealize.ShloMosaic Idealize.ShloMosaic.TcCoe Idealize.SL.Sem

/-- The channel transform the kernel keeps for a block of real numbers: `chanOf`. -/
theorem chan_eq (x0 : Vec Ideal S1x8x256x512 .bf16) (x1 : Vec Ideal S256x256 .bf16) (x : ℕ → ℕ → ℝ)
    (hx : ∀ (s : Fin 8) (r : Fin 256) (l : Fin 512), x0 (ix4 0 s r l) = ((x (8 * r.val + s.val) l.val : ℝ) : EReal))
    (hp : ∀ a b : Fin 256, x1 (ix2 a b) = ((pairTab a.val b.val : ℝ) : EReal)) (a : Fin 2048) (b : Fin 512) :
    k0_pay4 x0 x1 x1 (ix2 a b) = ((chanOf x a.val b.val : ℝ) : EReal) := by
  unfold_payloads
  pointwise
  simp only [hx, hp, add_zero, zero_add, ← EReal.coe_mul, sum_coe]
  split_ifs <;> (refine congrArg _ ?_; unfold chanOf; refine Finset.sum_congr rfl fun l _ => ?_)
  all_goals exact congrArg₂ (· * ·) (congrArg (x _) (by omega)) (congrArg (pairTab _) (by omega))

variable (m : (ℓ : Loc nD τ sig) → Buf (Elt Ideal) ℓ) (c : Dev nD)

/-- The block each window shows at a grid point. -/
theorem index_eq : ∀ t : Fin cfg0.N, win0_0.index t = ![t.val, 0, 0, 0] ∧ win0_1.index t = ![0, 0] ∧ win0_2.index t = ![0, 0]
    ∧ win0_3.index t = ![0, 0, 0] ∧ win0_4.index t = ![0, 0, 0] ∧ win0_5.index t = ![t.val, 0, 0] :=
  (by decide +kernel : ∀ t : Fin grid0.N, _)

theorem lt_grid (t : Fin cfg0.N) : t.val < 8 := t.isLt

/-- The argument's block at a grid point is one sequence. -/
theorem read_arg (t : Fin cfg0.N) (s : Fin 8) (r : Fin 256) (l : Fin 512) :
    (iblk m c 0 t : Vec Ideal S1x8x256x512 .bf16) (ix4 0 s r l)
      = (V m c main_v65 : Vec Ideal S16x8x256x512 .bf16) (ix4 ⟨t.val, by have := lt_grid t; omega⟩ s r l) := by
  obtain ⟨e, -⟩ := index_eq t
  blk_ext [iblk, e]

/-- The other blocks are whole tables. -/
theorem read_pair (t : Fin cfg0.N) (a b : Fin 256) :
    (iblk m c 1 t : Vec Ideal S256x256 .bf16) (ix2 a b) = (V m c main_v62 : Vec Ideal S256x256 .bf16) (ix2 a b) := by
  obtain ⟨-, e, -⟩ := index_eq t
  blk_ext [iblk, e]
theorem read_seq (t : Fin cfg0.N) (a : Fin 512) (b : Fin 256) :
    (iblk m c 2 t : Vec Ideal S512x256 .bf16) (ix2 a b) = (V m c main_v63 : Vec Ideal S512x256 .bf16) (ix2 a b) := by
  obtain ⟨-, -, e, -⟩ := index_eq t
  blk_ext [iblk, e]
theorem read_cos (t : Fin cfg0.N) (s : Fin 8) (r : Fin 256) (l : Fin 128) :
    (iblk m c 3 t : Vec Ideal S8x256x128 .f32) (ix3 s r l) = (V m c main_v60 : Vec Ideal S8x256x128 .f32) (ix3 s r l) := by
  obtain ⟨-, -, -, e, -⟩ := index_eq t
  blk_ext [iblk, e]
theorem read_sin (t : Fin cfg0.N) (s : Fin 8) (r : Fin 256) (l : Fin 128) :
    (iblk m c 4 t : Vec Ideal S8x256x128 .f32) (ix3 s r l) = (V m c main_v61 : Vec Ideal S8x256x128 .f32) (ix3 s r l) := by
  obtain ⟨-, -, -, -, e, -⟩ := index_eq t
  blk_ext [iblk, e]

/-- The block of `result` at a grid point is the block's function of the sequence. -/
theorem result_block (a : Vec Ideal S16x2048x512 .bf16) (t : Fin cfg0.N) (y : S1x2048x512.Idx) :
    blockFn seqTab (chanOf (rowsOf a t.val)) turnCos turnSin y = result a (((cfg0.win 5).blk t).view.emb y) := by
  obtain ⟨-, -, -, -, -, e⟩ := index_eq t
  have h0 : (((cfg0.win 5).blk t).view.emb y 0).val = t.val := by
    have : (y 0).val < 1 := (y 0).isLt
    blk_simp [e]
  have h1 : (((cfg0.win 5).blk t).view.emb y 1).val = (y 1).val := by blk_simp [e]
  have h2 : (((cfg0.win 5).blk t).view.emb y 2).val = (y 2).val := by blk_simp [e]
  have h3 : (y 2).val < 512 := (y 2).isLt
  unfold blockFn result
  rw [h0, h1, h2, combine_eq _ _ _ _ _ (by omega) (by omega) (by omega), Nat.div_add_mod]

/-- Where the argument holds reals, the result array is `result` of it. -/
theorem array_eq (hfin : ∀ i, ∃ r : ℝ, (m ((c.tc : Thread nD τ).loc main_arg0) : Vec Ideal S16x2048x512 .bf16) i = (r : EReal)) :
    (dats m 0 c).arrAt 5 cfg0.N = result (m ((c.tc : Thread nD τ).loc main_arg0)) := by
  refine (dats m 0 c).arrAt_eq_of_covers 5 _ (by decide +kernel) fun t hf y => ?_
  have ht := lt_grid t
  rw [after0_5]
  simp only [outsAt0]
  rw [out_eq c _ _ _ _ _ _ _ _ _ _ _ _ _ _ _ _ _ _ seqTab (chanOf (rowsOf (m ((c.tc : Thread nD τ).loc main_arg0)) t.val)) turnCos turnSin
    ?_ ?_ ?_ ?_ ?_ ?_]
  · exact result_block _ t y
  · exact fun a b => (read_seq m c t a b).trans (launch_seq m c a b)
  · refine chan_eq _ _ _ (fun s r l => ?_) (fun a b => (read_pair m c t a b).trans (launch_pair m c a b))
    refine (read_arg m c t s r l).trans ((launch_arg m c _ s r l).trans ?_)
    obtain ⟨v, hv⟩ := hfin (ix3 ⟨t.val, by omega⟩ ⟨r.val * 8 + s.val, by omega⟩ l)
    have e : 8 * r.val + s.val = r.val * 8 + s.val := by omega
    rw [rowsOf, dif_pos ⟨by omega, by omega, l.isLt⟩]
    simp only [e]
    rw [hv, EReal.toReal_coe]
  · exact fun s r l => (read_cos m c t s r l).trans (launch_cos m c s r l)
  · exact fun s r l => (read_sin m c t s r l).trans (launch_sin m c s r l)
  · intro r; simp [turnCos, turnAng]
  · intro r; simp [turnSin, turnAng]

end Cert.Fnet

end
-- ==== Proof.Fnet.Reference.lean ====
module

public import proofs.«01_k».proof.Proof.Fnet.Result
public import proofs.«01_k».proof.Proof.Fnet.Words
public import proofs.«01_k».proof.Proof.Gen.ReferenceIdeal.Read

@[expose] public section

set_option maxRecDepth 16384

/-! # What the reference computes -/

noncomputable section

namespace Cert.Fnet

open Cert.ReferenceIdeal Cert.ReferenceIdeal.Read Idealize.ShloMosaic Idealize.ShloMosaic.TcCoe

/-- The transform before its bins are put in order: `mixed`. -/
theorem ref_mixed (a : Vec Ideal S16x2048x512 .bf16) (hfin : ∀ i, ∃ r : ℝ, a i = (r : EReal)) (b : Fin 8) (n : Fin 2048) (g : Fin 4) (k : Fin 128) :
    val_main_v34 (F := Ideal) a (ix4 b n g k) = ((mixed (rowsOf a b.val) n.val g.val k.val : ℝ) : EReal) := by
  unfold val_main_v34 val_main_v33 val_main_v32 val_main_cst_5 val_main_v31 val_main_v30 val_main_v29 val_main_v28 val_main_v27 val_main_v26
    val_main_v25 val_main_v24 val_main_v23 val_main_v22 val_main_v21 val_main_v20 val_main_v19 val_main_v18 val_main_cst_4 val_main_v17 val_main_cst_3
    val_main_v16 val_main_cst_2 val_main_v15 val_main_v14 val_main_v13 val_main_v12 val_main_v11 val_main_v10 val_main_v9 val_main_cst_1
    val_main_v8 val_main_cst_0 val_main_v7 val_main_cst val_main_v6 val_main_v5 val_main_v4 val_main_v3 val_main_v2 val_main_v1 val_main_v0
  pointwise
  have w1 : ∀ x : Fin 128, (FloatOps.sitofp .f32 (IntOp.muli (BitVec.ofNat 32 x.val) (BitVec.ofNat 32 k.val)) : Ideal .f32)
      = ((x.val * k.val : ℝ) : EReal) := fun x => word_mul _ _ (by
    have := Nat.mul_lt_mul_of_lt_of_lt x.isLt k.isLt
    omega)
  have w2 : ∀ x : Fin 2048, (FloatOps.sitofp .f32 (IntOp.muli (BitVec.ofNat 32 n.val) (BitVec.ofNat 32 x.val)) : Ideal .f32)
      = ((n.val * x.val : ℝ) : EReal) := fun x => word_mul _ _ (by
    have := Nat.mul_lt_mul_of_lt_of_lt n.isLt x.isLt
    omega)
  have ha : ∀ (x : Fin 2048) (l : Fin 128) (h : b.val < 16) (h' : g.val * 128 + l.val < 512),
      a (ix3 ⟨b.val, h⟩ x ⟨g.val * 128 + l.val, h'⟩) = ((rowsOf a b.val x.val (128 * g.val + l.val) : ℝ) : EReal) := fun x l h h' => by
    obtain ⟨v, hv⟩ := hfin (ix3 ⟨b.val, h⟩ x ⟨g.val * 128 + l.val, h'⟩)
    rw [Nat.mul_comm 128, rowsOf, dif_pos ⟨h, x.isLt, h'⟩, hv, EReal.toReal_coe]
  have e : Ideal.ofBits .f32 989855744#32 = ((1 / 512 : ℝ) : EReal) := by
    simp [Ideal.ofBits, Ideal.ieee, -EReal.coe_mul]; norm_num
  simp only [ha, w1, w2, e, pi_eq, ofBits_64th, ofBits_1024th, ← EReal.coe_mul, Ideal.cos_coe, Ideal.sin_coe, sum_coe, ← EReal.coe_sub]
  refine congrArg _ (congrArg (· * _) (congrArg₂ (· - ·) ?_ ?_)) <;> exact Finset.sum_congr rfl fun x _ => mul_comm _ _

/-- The reference's result over an argument of reals. -/
theorem ref_result (a : Vec Ideal S16x2048x512 .bf16) (hfin : ∀ i, ∃ r : ℝ, a i = (r : EReal)) :
    val_main_v42 (F := Ideal) a = result a := by
  funext y
  idx_vars y
  unfold val_main_v42 val_main_v41 val_main_v40 val_main_v39 val_main_v38 val_main_v37 val_main_v36 val_main_v35
  have h := ref_mixed a hfin y0 y1
  generalize val_main_v34 (F := Ideal) a = X at h
  pointwise
  simp (decide := true) only [↓reduceIte, h, Fin.val_rev]
  unfold result
  simp only [ix3_0, ix3_1, ix3_2, Fin.val_rev]
  split_ifs with h1 h2
  · rw [show y2.val / 64 = y2.val % 256 / 64 by omega, show y2.val % 64 = binOf (y2.val / 256) (y2.val % 256) by unfold binOf; split_ifs <;> omega]
  · rw [show (y2.val - 256) / 64 = y2.val % 256 / 64 by omega,
      show 64 + (y2.val - 256) % 64 = binOf (y2.val / 256) (y2.val % 256) by unfold binOf; split_ifs <;> omega]
  · rw [show (y2.val - 256) / 64 = y2.val % 256 / 64 by omega,
      show 65 + (63 - ((y2.val - 256) % 64 - 1 + 1)) = binOf (y2.val / 256) (y2.val % 256) by unfold binOf; split_ifs <;> omega]

end Cert.Fnet

end
-- ==== Proof.Fnet.Equation.lean ====
module

public import proofs.«01_k».proof.Defs
public import proofs.«01_k».proof.Proof.Fnet.Array
public import proofs.«01_k».proof.Proof.Fnet.Reference
public import proofs.«01_k».proof.Proof.Gen.KernelIdeal.Value
public import proofs.«01_k».proof.Proof.Gen.Pre_finite
public import proofs.«01_k».proof.Proof.Gen.ReferenceIdeal.Run
public import proofs.«01_k».proof.Proof.Gen.ReferenceIdeal.Read

@[expose] public section

set_option maxRecDepth 16384

/-! # The Fourier mixer: the kernel's array is the reference's array -/

noncomputable section

namespace Cert.Fnet

open Idealize.ShloMosaic Idealize.ShloMosaic.TcCoe Idealize.SL.Sem

/-- The precondition says that every element of the mixer's input is a real number. -/
theorem real_of_pre [Cert.Pre_finite.Facts] (a : Vec Ideal ⟨3, ![16, 2048, 512]⟩ .bf16) (b : Vec Ideal ⟨2, ![32768, 512]⟩ .bf16)
    (h : Cert.Pre_finite.fn (F := Ideal) a b = fun _ => 1#1) (i : (⟨3, ![16, 2048, 512]⟩ : Shape).Idx) :
    ∃ r : ℝ, a i = (r : EReal) := by
  have h := congrFun h i
  idx_vars i
  dsimp only [Cert.Pre_finite.fn] at h
  pointwise at h
  have e : (Ideal.ofBits .f32 2139095040#32 : Ideal .f32) = (⊤ : EReal) := by
    simp [Ideal.ofBits, Ideal.ieee]
  rw [e] at h
  generalize a (ix3 i0 i1 i2) = x at h ⊢
  have key : ∀ x : EReal, max x (-x) < ⊤ → ∃ r : ℝ, x = r := fun x h => by
    induction x with
    | bot => simp at h
    | top => simp at h
    | coe r => exact ⟨r, rfl⟩
  refine key x (by_contra fun hn => ?_)
  have : (FloatOps.absf (F := Ideal) (φ := .f32) x < (⊤ : EReal)) = False := eq_false hn
  simp [this] at h

/-- Over the extended reals, from the same finite input, the kernel and the reference end with the same array: the real
    Fourier transform over positions and channels of each group, its bins in the layout that `result` states. -/
theorem algebraic :
    Cert.algebraic_KernelIdeal_ReferenceIdeal_pre_finite (hKernelIdeal := Cert.KernelIdeal.Gen.facts)
      (hReferenceIdeal := Cert.ReferenceIdeal.Gen.facts) (hPre_finite := Cert.Pre_finite.Gen.facts) := fun m ρ m' ρ' hp ha => by
  have real := fun c => @real_of_pre Cert.Pre_finite.Gen.facts _ _ (hp c)
  refine ⟨fun c => result (m ((c.tc : Thread Cert.KernelIdeal.nD Cert.KernelIdeal.τ).loc Cert.KernelIdeal.main_arg0)), ?_, ?_⟩
  · exact (θ_run Cert.KernelIdeal.defs _ _).mono (fun _ h c => ⟨(h c).1.trans (array_eq m c (real c)), (h c).2⟩)
      (Cert.KernelIdeal.Value.run_blocks m ρ)
  · refine (θ_run Cert.ReferenceIdeal.defs _ _).mono (fun _ h c => ⟨(h c).1.trans ?_, (h c).2⟩) (Cert.ReferenceIdeal.Value.run m' ρ')
    rw [Cert.ReferenceIdeal.Read.val_main_v42_eq m' c, (ha c).1]
    exact ref_result _ (real c)

end Cert.Fnet

end
-- ==== Proof.Merge.Spec.lean ====
module

public import Idealize.ShloMosaic.PureOps.Ideal
public import Idealize.ShloMosaic.Lib.Pointwise

@[expose] public section

/-! # The merge and the feed-forward part, one token at a time

Every function here takes one token's row of each activation, and the weights. -/

noncomputable section

namespace Cert.Merge

open Idealize.ShloMosaic

/-- GELU in its tanh form. -/
def gelu (s : EReal) : EReal :=
  s * (Ideal.ofBits .f32 0x3F000000#32 * (1 + Ideal.tanh (Ideal.ofBits .f32 0x3F4C422A#32 * (s + Ideal.ofBits .f32 0x3D372713#32 * (s * s * s)))))

/-- The scan branch: GELU of the scan with its skip, then the gated linear unit. -/
def glu (u y d : Fin 512 → EReal) (w : Fin 512 → Fin 2048 → EReal) (j : Fin 1024) : EReal :=
  (∑ l, gelu (y l + d l * u l) * w l ⟨j.val, by omega⟩) * Ideal.logistic (∑ l, gelu (y l + d l * u l) * w l ⟨1024 + j.val, by omega⟩)

/-- The token's residual after the two gated branches and the output projection. -/
def merged (x : Fin 1024 → EReal) (ya yb za zb : Fin 1024 → EReal) (w : Fin 1024 → Fin 1024 → EReal) (j : Fin 1024) : EReal :=
  x j + ∑ l, (Ideal.logistic (za l) * ya l + Ideal.logistic (zb l) * yb l) * w l j

/-- The root mean square norm. -/
def norm (x g : Fin 1024 → EReal) (j : Fin 1024) : EReal :=
  x j * Ideal.rsqrt (Ideal.div (∑ k, x k * x k) (Ideal.ofBits .f32 0x44800000#32) + Ideal.ofBits .f32 0x358637BD#32) * g j

/-- The squared rectified unit on the normed token. -/
def hidden (x g : Fin 1024 → EReal) (w : Fin 1024 → Fin 4096 → EReal) (q : Fin 4096) : EReal :=
  max (∑ k, norm x g k * w k q) 0 * max (∑ k, norm x g k * w k q) 0

/-- The residual after the feed-forward part. -/
def fed (x : Fin 1024 → EReal) (h : Fin 4096 → EReal) (w : Fin 4096 → Fin 1024 → EReal) (j : Fin 1024) : EReal :=
  x j + ∑ q, h q * w q j

/-- The residual after the gated layer embedding. -/
def embedded (x g : Fin 1024 → EReal) (wg : Fin 1024 → Fin 1024 → EReal) (p : Fin 256 → EReal) (wp : Fin 256 → Fin 1024 → EReal) (j : Fin 1024) : EReal :=
  x j + Ideal.logistic (∑ k, norm x g k * wg k j) * ∑ k, p k * wp k j

/-- The layer's weights, as functions of their coordinates. -/
structure Weights where
  skip : Fin 512 → EReal
  glu : Fin 512 → Fin 2048 → EReal
  fnet : Fin 512 → Fin 1024 → EReal
  out : Fin 1024 → Fin 1024 → EReal
  gFfn : Fin 1024 → EReal
  up : Fin 1024 → Fin 4096 → EReal
  down : Fin 4096 → Fin 1024 → EReal
  gPle : Fin 1024 → EReal
  gate : Fin 1024 → Fin 1024 → EReal
  ple : Fin 256 → Fin 1024 → EReal
  gFinal : Fin 1024 → EReal

/-- One token's rows. -/
structure Token where
  x : Fin 1024 → EReal
  u : Fin 512 → EReal
  y : Fin 512 → EReal
  mixed : Fin 512 → EReal
  za : Fin 1024 → EReal
  zb : Fin 1024 → EReal
  p : Fin 256 → EReal

/-- The residual after the branches, -/
def res1 (W : Weights) (T : Token) : Fin 1024 → EReal :=
  merged T.x (Cert.Merge.glu T.u T.y W.skip W.glu) (fun j => ∑ l, T.mixed l * W.fnet l j) T.za T.zb W.out

/-- after the feed-forward part, -/
def res2 (W : Weights) (T : Token) : Fin 1024 → EReal :=
  fed (res1 W T) (hidden (res1 W T) W.gFfn W.up) W.down

/-- after the layer embedding. -/
def res3 (W : Weights) (T : Token) : Fin 1024 → EReal :=
  embedded (res2 W T) W.gPle W.gate T.p W.ple

/-- One token of the layer's result. -/
def token (W : Weights) (T : Token) : Fin 1024 → EReal := norm (res3 W T) W.gFinal

/-- A token does not change when the mixer's channels and the rows of its map are reordered together. -/
theorem token_perm (W W' : Weights) (T T' : Token) (e : Fin 512 → Fin 512) (he : Function.Bijective e)
    (hW : W' = { W with fnet := fun l => W.fnet (e l) }) (hT : T' = { T with mixed := fun l => T.mixed (e l) }) :
    token W' T' = token W T := by
  subst hW hT
  have h : (fun j : Fin 1024 => ∑ l, T.mixed (e l) * W.fnet (e l) j) = fun j => ∑ l, T.mixed l * W.fnet l j :=
    funext fun j => he.sum_comp fun l => T.mixed l * W.fnet l j
  unfold token res3 res2 res1
  simp only [h]

end Cert.Merge

end
-- ==== Proof.Inproj.Spec.lean ====
module

public import proofs.«01_k».proof.Proof.Merge.Spec

@[expose] public section

/-! # The input projection, as formulas

A token's activations are normed and projected; the projection's columns are the scan's inputs, the mixer's inputs and two gates. -/

noncomputable section

namespace Cert.Inproj

open Idealize.ShloMosaic

/-- One column of the projection of a token: the normed activations times the column of the weights. -/
def proj (x g w : Fin 1024 → EReal) : EReal := ∑ k : Fin 1024, Merge.norm x g k * w k

/-- Column `q` for the token at position `n` of sequence `b`. -/
def entry (X : Vec Ideal ⟨3, ![16, 2048, 1024]⟩ .f32) (G : Vec Ideal ⟨2, ![1, 1024]⟩ .f32) (W : Vec Ideal ⟨3, ![1, 1024, 3072]⟩ .f32)
    (b : Fin 16) (n : Fin 2048) (q : Fin 3072) : EReal :=
  proj (fun j => X (ix3 b n j)) (fun j => G (ix2 0 j)) (fun k => W (ix3 0 k q))

/-- The same for row `R` of the tokens laid out one sequence after another. -/
def row (X : Vec Ideal ⟨3, ![16, 2048, 1024]⟩ .f32) (G : Vec Ideal ⟨2, ![1, 1024]⟩ .f32) (W : Vec Ideal ⟨3, ![1, 1024, 3072]⟩ .f32)
    (R : Fin 32768) (q : Fin 3072) : EReal :=
  entry X G W ⟨R.val / 2048, by omega⟩ ⟨R.val % 2048, by omega⟩ q

variable (X : Vec Ideal ⟨3, ![16, 2048, 1024]⟩ .f32) (G : Vec Ideal ⟨2, ![1, 1024]⟩ .f32) (W : Vec Ideal ⟨3, ![1, 1024, 3072]⟩ .f32)

/-- The scan's inputs: columns 0 to 511, -/
def scanIn : Vec Ideal ⟨2, ![32768, 512]⟩ .bf16 := fun i =>
  row X G W (i 0) ⟨(i 1).val, by have h : (i 1).val < 512 := (i 1).isLt; omega⟩

/-- the mixer's inputs: columns 512 to 1023, a sequence's positions split by their remainder modulo 8, -/
def mixerIn : Vec Ideal ⟨4, ![16, 8, 256, 512]⟩ .bf16 := fun i =>
  entry X G W (i 0) ⟨8 * (i 2).val + (i 1).val, by have h : (i 1).val < 8 := (i 1).isLt; have h' : (i 2).val < 256 := (i 2).isLt; omega⟩
    ⟨512 + (i 3).val, by have h : (i 3).val < 512 := (i 3).isLt; omega⟩

/-- the first gate: columns 1024 to 2047, -/
def gateA : Vec Ideal ⟨2, ![32768, 1024]⟩ .bf16 := fun i =>
  row X G W (i 0) ⟨1024 + (i 1).val, by have h : (i 1).val < 1024 := (i 1).isLt; omega⟩

/-- the second gate: columns 2048 to 3071. -/
def gateB : Vec Ideal ⟨2, ![32768, 1024]⟩ .bf16 := fun i =>
  row X G W (i 0) ⟨2048 + (i 1).val, by have h : (i 1).val < 1024 := (i 1).isLt; omega⟩

/-- A layer's weights without their axis of length one. -/
def layer {a b : ℕ} (w : Vec Ideal ⟨3, ![1, a, b]⟩ .f32) : Vec Ideal ⟨2, ![a, b]⟩ .bf16 := fun i => w (ix3 0 (i 0) (i 1))

end Cert.Inproj

end
-- ==== Proof.Inproj.Block.lean ====
module

public import proofs.«01_k».proof.Proof.Gen.Kernel3Ideal.Value
public import proofs.«01_k».proof.Proof.Inproj.Spec
public import Idealize.ShloMosaic.Lib.Pointwise
public import Idealize.ShloMosaic.Lib.Pipeline.ValueKit
public import Idealize.ShloMosaic.Lib.Pipeline.ReadBack

@[expose] public section

set_option maxRecDepth 16384

/-! # The values a grid point computes from its blocks -/

noncomputable section

namespace Cert.Inproj

open Cert.Kernel3Ideal Cert.Kernel3Ideal.Gen Idealize.ShloMosaic Idealize.ShloMosaic.TcCoe Idealize.SL.Sem

/-- The normed activations. -/
theorem pay2_eq (x : Vec Ideal S1024x1024 .f32) (g : Vec Ideal S1x1024 .f32) (r k : Fin 1024) :
    k0_pay2 x g (ix2 r k) = Merge.norm (fun j => x (ix2 r j)) (fun j => g (ix2 0 j)) k := by
  unfold k0_pay2
  pointwise
  rfl

/-- The carried weights are the weights. -/
theorem pay1_eq (w : Vec Ideal S1024x3072 .f32) (k : Fin 1024) (q : Fin 3072) : k0_pay1 w (ix2 k q) = w (ix2 k q) := by
  unfold k0_pay1
  pointwise

/-- The mixer's columns. -/
theorem pay3_eq (x : Vec Ideal S1024x1024 .f32) (g : Vec Ideal S1x1024 .f32) (w : Vec Ideal S1024x3072 .bf16) (h) (r : Fin 1024) (q : Fin 512) :
    k0_pay3 x g (View.ld w (Rect.unit (s := S1024x3072) ![0, 512] ![1024, 512] h)) (ix2 r q)
      = proj (fun j => x (ix2 r j)) (fun j => g (ix2 0 j)) (fun k => w (ix2 k ⟨512 + q.val, by omega⟩)) := by
  have e := pay2_eq x g r
  unfold k0_pay3
  generalize k0_pay2 x g = H at e ⊢
  pointwise
  simp only [e]
  rfl

/-- The scan's columns. -/
theorem pay44_eq (x : Vec Ideal S1024x1024 .f32) (g : Vec Ideal S1x1024 .f32) (w : Vec Ideal S1024x3072 .bf16) (h) (r : Fin 1024) (q : Fin 512) :
    k0_pay44 (k0_pay2 x g) (View.ld w (Rect.unit (s := S1024x3072) ![0, 0] ![1024, 512] h)) (ix2 r q)
      = proj (fun j => x (ix2 r j)) (fun j => g (ix2 0 j)) (fun k => w (ix2 k ⟨q.val, by omega⟩)) := by
  have e := pay2_eq x g r
  unfold k0_pay44
  generalize k0_pay2 x g = H at e ⊢
  pointwise
  simp only [e]
  rfl

/-- The first gate's columns. -/
theorem pay45_eq (x : Vec Ideal S1024x1024 .f32) (g : Vec Ideal S1x1024 .f32) (w : Vec Ideal S1024x3072 .bf16) (h) (r : Fin 1024) (q : Fin 1024) :
    k0_pay45 (k0_pay2 x g) (View.ld w (Rect.unit (s := S1024x3072) ![0, 1024] ![1024, 1024] h)) (ix2 r q)
      = proj (fun j => x (ix2 r j)) (fun j => g (ix2 0 j)) (fun k => w (ix2 k ⟨1024 + q.val, by omega⟩)) := by
  have e := pay2_eq x g r
  unfold k0_pay45
  generalize k0_pay2 x g = H at e ⊢
  pointwise
  simp only [e]
  rfl

/-- The second gate's columns. -/
theorem pay46_eq (x : Vec Ideal S1024x1024 .f32) (g : Vec Ideal S1x1024 .f32) (w : Vec Ideal S1024x3072 .bf16) (h) (r : Fin 1024) (q : Fin 1024) :
    k0_pay46 (k0_pay2 x g) (View.ld w (Rect.unit (s := S1024x3072) ![0, 2048] ![1024, 1024] h)) (constant S1024x1024 .f32 0x00000000#32) (ix2 r q)
      = proj (fun j => x (ix2 r j)) (fun j => g (ix2 0 j)) (fun k => w (ix2 k ⟨2048 + q.val, by omega⟩)) := by
  have e := pay2_eq x g r
  unfold k0_pay46
  generalize k0_pay2 x g = H at e ⊢
  pointwise
  simp only [e]
  rfl

/-! ## The mixer's columns, through the scratch and out by rows of one remainder -/

/-- The scratch: the four groups' columns one after another. -/
def groups (U : Vec Ideal S1024x512 .f32) : S4x1024x128.Idx → Ideal .f32 := fun y =>
  U (ix2 (y 1) ⟨128 * (y 0).val + (y 2).val, by have h : (y 0).val < 4 := (y 0).isLt; have h' : (y 2).val < 128 := (y 2).isLt; omega⟩)

/-- The scratch at an index of one group's part. -/
theorem groups_emb (U : Vec Ideal S1024x512 .f32) (a : ℕ) (ha : a < 4) (h) (r : Fin 1024) (k : Fin 128) :
    groups U ((Rect.unit (s := S4x1024x128) ![a, 0, 0] ![1, 1024, 128] h).emb (ix3 0 r k)) = U (ix2 r ⟨128 * a + k.val, by omega⟩) := by
  unfold groups
  refine congrArg U (congrArg₂ ix2 (Fin.ext ?_) (Fin.ext ?_))
  · rw [Rect.emb_apply]; simp [Rect.unit]
  · show 128 * _ + _ = _
    rw [Rect.emb_apply, Rect.emb_apply]; simp [Rect.unit]

/-- The four stores leave the groups in the scratch. -/
theorem scratch_eq (x : Vec Ideal S1024x1024 .f32) (g : Vec Ideal S1x1024 .f32) (w : Vec Ideal S1024x512 .bf16) (h0 h1 h2 h3) (y : S4x1024x128.Idx) :
    View.canon (Val := Elt Ideal) (e := .f32)
      [⟨Rect.unit (s := S4x1024x128) ![3, 0, 0] ![1, 1024, 128] h3, k0_pay7 (k0_pay3 x g w)⟩,
       ⟨Rect.unit (s := S4x1024x128) ![2, 0, 0] ![1, 1024, 128] h2, k0_pay6 x g w⟩,
       ⟨Rect.unit (s := S4x1024x128) ![1, 0, 0] ![1, 1024, 128] h1, k0_pay5 x g w⟩,
       ⟨Rect.unit (s := S4x1024x128) ![0, 0, 0] ![1, 1024, 128] h0, k0_pay4 x g w⟩] y
      = groups (k0_pay3 x g w) y := by
  refine View.canon_apply_of_pieces (Val := Elt Ideal) (e := .f32) (groups (k0_pay3 x g w)) _ ?_ y ?_
  case refine_2 => exact View.cover_of_tiledL (s := S4x1024x128) _ S1x1024x128.size (by sl_kernel_rfl) y
  unfold k0_pay4 k0_pay5 k0_pay6 k0_pay7
  generalize k0_pay3 x g w = U
  simp only [List.forall_mem_cons]
  refine ⟨?_, ?_, ?_, ?_, fun _ h => nomatch h⟩
  all_goals
    intro z
    idx_vars z
    rw [Subsingleton.elim z0 0]
    refine Eq.trans ?_ (groups_emb U _ (by decide) _ _ _).symm
    pointwise

end Cert.Inproj

end
-- ==== Proof.Inproj.Point.lean ====
module

public import proofs.«01_k».proof.Proof.Inproj.Block
public import Idealize.ShloMosaic.Lib.Pipeline.ValueKit.Held

@[expose] public section

set_option maxRecDepth 16384

/-! # What a grid point leaves in its output blocks -/

noncomputable section

namespace Cert.Inproj

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- A load of any part of the scratch after a store to the whole of it. -/
theorem read_filled (Z : Vec Ideal S1024x3072 .bf16) (h) (r : Rect S1024x3072) :
    (View.whole cc0_scratch1).readCov (Val := Elt Ideal) [⟨Rect.unit (s := S1024x3072) ![0, 0] ![1024, 3072] h, Z⟩] r.toLoadRect = View.ld Z r :=
  View.readCov_fill _ _ _ _ r (by decide)

theorem lt_grid (t : Fin cfg0.N) : t.val < 32 := t.isLt

/-- The first grid point. -/
def first : Fin cfg0.N := ⟨0, by decide⟩

/-- The weights the first grid point leaves in the scratch are there at every later one. -/
theorem carried (t : Fin cfg0.N) : (outsAt0 m c t.val t.isLt).2.2.2.2.2.2.2.2.2.2 = k0_pay1 (iblk m c 2 first) := by
  have h := Pipeline.eq_of_write_hold (fun n h => (outsAt0 m c n h).2.2.2.2.2.2.2.2.2.2) 32 (fun t => k0_pay1 (iblk m c 2 t))
    (fun t h => by
      show (outsAt0 m c t.val t.isLt).2.2.2.2.2.2.2.2.2.2 = _
      rw [outsAt0_A m c t h]
      frame_out)
    (fun t h => by
      show (outsAt0 m c t.val t.isLt).2.2.2.2.2.2.2.2.2.2 = _
      rw [outsAt0_B m c t h]
      exact rfl)
    t
  have e : (⟨32 * (t.val / 32), Pipeline.run_start_lt t⟩ : Fin cfg0.N) = first := Fin.ext (by have := lt_grid t; show 32 * (t.val / 32) = 0; omega)
  rw [e] at h
  exact h

/-- The point before a later point left the same. -/
theorem carried_before (t : Fin cfg0.N) (h) : (outsAt0 m c (t.val - 1) h).2.2.2.2.2.2.2.2.2.2 = k0_pay1 (iblk m c 2 first) := carried m c ⟨t.val - 1, h⟩

theorem first_of (t : Fin cfg0.N) (h : t.val % 32 = 0) : t = first := Fin.ext (by have := lt_grid t; show t.val = 0; omega)

/-- The scan's columns of the block's tokens. -/
theorem point_scan (t : Fin cfg0.N) (r : Fin 1024) (q : Fin 512) :
    (outsAt0 m c t.val t.isLt).1 (ix2 r q)
      = proj (fun j => (iblk m c 0 t : Vec Ideal S1024x1024 .f32) (ix2 r j)) (fun j => (iblk m c 1 t : Vec Ideal S1x1024 .f32) (ix2 0 j))
          (fun k => (iblk m c 2 first : Vec Ideal S1024x3072 .f32) (ix2 k ⟨q.val, by omega⟩)) := by
  have e := pay44_eq (iblk m c 0 t) (iblk m c 1 t) (k0_pay1 (iblk m c 2 first))
  by_cases h : t.val % 32 = 0
  · rw [outsAt0_A m c t h]
    frame_out
    rw [← first_of t h] at e ⊢
    rw [read_filled]
    rw [e]
    simp only [pay1_eq]
  · rw [outsAt0_B m c t h]
    frame_out
    simp only [carried_before, read_unread_whole]
    rw [e]
    simp only [pay1_eq]

/-- The first gate's. -/
theorem point_gateA (t : Fin cfg0.N) (r : Fin 1024) (q : Fin 1024) :
    (outsAt0 m c t.val t.isLt).2.2.1 (ix2 r q)
      = proj (fun j => (iblk m c 0 t : Vec Ideal S1024x1024 .f32) (ix2 r j)) (fun j => (iblk m c 1 t : Vec Ideal S1x1024 .f32) (ix2 0 j))
          (fun k => (iblk m c 2 first : Vec Ideal S1024x3072 .f32) (ix2 k ⟨1024 + q.val, by omega⟩)) := by
  have e := pay45_eq (iblk m c 0 t) (iblk m c 1 t) (k0_pay1 (iblk m c 2 first))
  by_cases h : t.val % 32 = 0
  · rw [outsAt0_A m c t h]
    frame_out
    rw [← first_of t h] at e ⊢
    rw [read_filled]
    rw [e]
    simp only [pay1_eq]
  · rw [outsAt0_B m c t h]
    frame_out
    simp only [carried_before, read_unread_whole]
    rw [e]
    simp only [pay1_eq]

/-- The second gate's. -/
theorem point_gateB (t : Fin cfg0.N) (r : Fin 1024) (q : Fin 1024) :
    (outsAt0 m c t.val t.isLt).2.2.2.1 (ix2 r q)
      = proj (fun j => (iblk m c 0 t : Vec Ideal S1024x1024 .f32) (ix2 r j)) (fun j => (iblk m c 1 t : Vec Ideal S1x1024 .f32) (ix2 0 j))
          (fun k => (iblk m c 2 first : Vec Ideal S1024x3072 .f32) (ix2 k ⟨2048 + q.val, by omega⟩)) := by
  have e := pay46_eq (iblk m c 0 t) (iblk m c 1 t) (k0_pay1 (iblk m c 2 first))
  by_cases h : t.val % 32 = 0
  · rw [outsAt0_A m c t h]
    frame_out
    rw [← first_of t h] at e ⊢
    rw [read_filled]
    rw [e]
    simp only [pay1_eq]
  · rw [outsAt0_B m c t h]
    frame_out
    simp only [carried_before, read_unread_whole]
    rw [e]
    simp only [pay1_eq]

/-- The rows of `w_glu` that the grid point copies. -/
theorem point_glu (t : Fin cfg0.N) (r : Fin 16) (q : Fin 2048) :
    (outsAt0 m c t.val t.isLt).2.2.2.2.1 (ix2 r q) = (iblk m c 3 t : Vec Ideal S16x2048 .f32) (ix2 r q) := by
  by_cases h : t.val % 32 = 0
  · rw [outsAt0_A m c t h]
    frame_out
    unfold k0_pay47
    pointwise
  · rw [outsAt0_B m c t h]
    frame_out
    unfold k0_pay47
    pointwise

/-- The rows of `w_fnet` that the grid point copies. -/
theorem point_fnet (t : Fin cfg0.N) (r : Fin 16) (q : Fin 1024) :
    (outsAt0 m c t.val t.isLt).2.2.2.2.2.1 (ix2 r q) = (iblk m c 4 t : Vec Ideal S16x1024 .f32) (ix2 r q) := by
  by_cases h : t.val % 32 = 0
  · rw [outsAt0_A m c t h]
    frame_out
    unfold k0_pay48
    pointwise
  · rw [outsAt0_B m c t h]
    frame_out
    unfold k0_pay48
    pointwise

/-- The rows of `w_out` that the grid point copies. -/
theorem point_out (t : Fin cfg0.N) (r : Fin 32) (q : Fin 1024) :
    (outsAt0 m c t.val t.isLt).2.2.2.2.2.2.1 (ix2 r q) = (iblk m c 5 t : Vec Ideal S32x1024 .f32) (ix2 r q) := by
  by_cases h : t.val % 32 = 0
  · rw [outsAt0_A m c t h]
    frame_out
    unfold k0_pay49
    pointwise
  · rw [outsAt0_B m c t h]
    frame_out
    unfold k0_pay49
    pointwise

/-- The rows of `w_up` that the grid point copies. -/
theorem point_up (t : Fin cfg0.N) (r : Fin 32) (q : Fin 4096) :
    (outsAt0 m c t.val t.isLt).2.2.2.2.2.2.2.1 (ix2 r q) = (iblk m c 6 t : Vec Ideal S32x4096 .f32) (ix2 r q) := by
  by_cases h : t.val % 32 = 0
  · rw [outsAt0_A m c t h]
    frame_out
    unfold k0_pay50
    pointwise
  · rw [outsAt0_B m c t h]
    frame_out
    unfold k0_pay50
    pointwise

/-- The rows of `w_down` that the grid point copies. -/
theorem point_down (t : Fin cfg0.N) (r : Fin 128) (q : Fin 1024) :
    (outsAt0 m c t.val t.isLt).2.2.2.2.2.2.2.2.1 (ix2 r q) = (iblk m c 7 t : Vec Ideal S128x1024 .f32) (ix2 r q) := by
  by_cases h : t.val % 32 = 0
  · rw [outsAt0_A m c t h]
    frame_out
    unfold k0_pay51
    pointwise
  · rw [outsAt0_B m c t h]
    frame_out
    unfold k0_pay51
    pointwise

/-- The rows of `w_ple_gate` that the grid point copies. -/
theorem point_gate (t : Fin cfg0.N) (r : Fin 32) (q : Fin 1024) :
    (outsAt0 m c t.val t.isLt).2.2.2.2.2.2.2.2.2.1 (ix2 r q) = (iblk m c 8 t : Vec Ideal S32x1024 .f32) (ix2 r q) := by
  by_cases h : t.val % 32 = 0
  · rw [outsAt0_A m c t h]
    frame_out
    unfold k0_pay52
    pointwise
  · rw [outsAt0_B m c t h]
    frame_out
    unfold k0_pay52
    pointwise

end Cert.Inproj

end
-- ==== Proof.Inproj.Mixer.lean ====
module

public import proofs.«01_k».proof.Proof.Inproj.Point

@[expose] public section

set_option maxRecDepth 16384

/-! # The block of the mixer's inputs that a grid point leaves -/

noncomputable section

namespace Cert.Inproj

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The block: the rows of one remainder modulo 8 together, the columns as they are. -/
def split (U : Vec Ideal S1024x512 .f32) : S1x8x128x512.Idx → Ideal .bf16 := fun y =>
  U (ix2 ⟨8 * (y 2).val + (y 1).val, by have h : (y 1).val < 8 := (y 1).isLt; have h' : (y 2).val < 128 := (y 2).isLt; omega⟩ (y 3))

/-- The block at an index of one store's part. -/
theorem split_emb (U : Vec Ideal S1024x512 .f32) (s o : ℕ) (hs : s < 8) (ho : o + 128 ≤ 512) (h) (r : Fin 128) (k : Fin 128) :
    split U ((Rect.unit (s := S1x8x128x512) ![0, s, 0, o] ![1, 1, 128, 128] h).emb (ix4 0 0 r k))
      = U (ix2 ⟨8 * r.val + s, by omega⟩ ⟨o + k.val, by omega⟩) := by
  unfold split
  refine congrArg U (congrArg₂ ix2 (Fin.ext ?_) (Fin.ext ?_))
  · show 8 * _ + _ = _
    rw [Rect.emb_apply, Rect.emb_apply]; simp [Rect.unit]
  · rw [Rect.emb_apply]; simp [Rect.unit]

set_option maxHeartbeats 4000000 in
/-- The thirty-two stores leave the mixer's columns, split. -/
theorem point_mixer (t : Fin cfg0.N) (q) :
    (outsAt0 m c t.val t.isLt).2.1
      = split (k0_pay3 (iblk m c 0 t) (iblk m c 1 t) (View.ld (k0_pay1 (iblk m c 2 first)) (Rect.unit (s := S1024x3072) ![0, 512] ![1024, 512] q))) := by
  by_cases h : t.val % 32 = 0
  · rw [outsAt0_A m c t h]
    frame_out
    rw [← first_of t h, read_filled]
    simp only [View.readCov_eq_canon', scratch_eq]
    generalize k0_pay3 (iblk m c 0 t) (iblk m c 1 t) _ = U
    funext y
    refine View.canon_apply_of_pieces (Val := Elt Ideal) (e := .bf16) (split U) _ ?_ y ?_
    case refine_2 => exact View.cover_of_tiledL (s := S1x8x128x512) _ S1x1x128x128.size (by sl_kernel_rfl) y
    simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => nomatch h⟩
    all_goals
      intro z
      idx_vars z
      rw [Subsingleton.elim z0 0, Subsingleton.elim z1 0]
      refine Eq.trans ?_ (Eq.symm (split_emb U _ _ ?hs ?ho _ _ _))
      case hs => decide
      case ho => decide
      unfold_payloads
      pointwise
      refine congrArg U (congrArg₂ ix2 (Fin.ext ?_) (Fin.ext ?_))
      · first | rfl | exact Nat.add_comm _ _
      · first | rfl | exact Nat.zero_add _
  · rw [outsAt0_B m c t h]
    frame_out
    simp only [carried_before, read_unread_whole]
    simp only [View.readCov_eq_canon', scratch_eq]
    generalize k0_pay3 (iblk m c 0 t) (iblk m c 1 t) _ = U
    funext y
    refine View.canon_apply_of_pieces (Val := Elt Ideal) (e := .bf16) (split U) _ ?_ y ?_
    case refine_2 => exact View.cover_of_tiledL (s := S1x8x128x512) _ S1x1x128x128.size (by sl_kernel_rfl) y
    simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => nomatch h⟩
    all_goals
      intro z
      idx_vars z
      rw [Subsingleton.elim z0 0, Subsingleton.elim z1 0]
      refine Eq.trans ?_ (Eq.symm (split_emb U _ _ ?hs ?ho _ _ _))
      case hs => decide
      case ho => decide
      unfold_payloads
      pointwise
      refine congrArg U (congrArg₂ ix2 (Fin.ext ?_) (Fin.ext ?_))
      · first | rfl | exact Nat.add_comm _ _
      · first | rfl | exact Nat.zero_add _

end Cert.Inproj

end
-- ==== Proof.Inproj.Windows.lean ====
module

public import proofs.«01_k».proof.Proof.Inproj.Mixer
public import proofs.«01_k».proof.Proof.Gen.Kernel3Ideal.Value
public import Idealize.ShloMosaic.Lib.Pointwise
public import Idealize.ShloMosaic.Lib.StableHlo.ReadAt
public import Idealize.ShloMosaic.Lib.Pipeline.ValueKit

@[expose] public section

set_option maxRecDepth 16384

/-! # What each window shows of its array, and the arrays read from the program's arguments -/

noncomputable section

namespace Cert.Inproj

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The block each input's window shows at a grid point: the grid point's own, but for the gain and the projection, shown whole. -/
theorem index_in : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The block each output's window writes: the grid point's own; two of the mixer's inputs' make up a sequence. -/
theorem index_out : ∀ t : Fin cfg0.N, win0_9.index t = ![t.val, 0] ∧ win0_10.index t = ![t.val / 2, 0, t.val % 2, 0] ∧ win0_11.index t = ![t.val, 0] ∧ win0_12.index t = ![t.val, 0]
    ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] :=
  (by decide +kernel : ∀ t : Fin grid0.N, _)

/-! ## What a block holds -/

/-- The activations' rows, -/
theorem read_x (t : Fin cfg0.N) (r : Fin 1024) (j : Fin 1024) :
    (iblk m c 0 t : Vec Ideal S1024x1024 .f32) (ix2 r j) = (V m c main_v0 : Vec Ideal S32768x1024 .f32) (ix2 ⟨1024 * t.val + r.val, by have := lt_grid t; omega⟩ j) := by
  obtain ⟨e, -⟩ := index_in t
  blk_ext [iblk, e]

/-- the gain, -/
theorem read_g (t : Fin cfg0.N) (j : Fin 1024) :
    (iblk m c 1 t : Vec Ideal S1x1024 .f32) (ix2 0 j) = (V m c main_v2 : Vec Ideal S1x1024 .f32) (ix2 0 j) := by
  obtain ⟨_, e, -⟩ := index_in t
  blk_ext [iblk, e]

/-- the projection, -/
theorem read_w (t : Fin cfg0.N) (k : Fin 1024) (q : Fin 3072) :
    (iblk m c 2 t : Vec Ideal S1024x3072 .f32) (ix2 k q) = (V m c main_v3 : Vec Ideal S1024x3072 .f32) (ix2 k q) := by
  obtain ⟨_, _, e, -⟩ := index_in t
  blk_ext [iblk, e]

/-- the rows of `w_glu`, -/
theorem read_glu (t : Fin cfg0.N) (r : Fin 16) (q : Fin 2048) :
    (iblk m c 3 t : Vec Ideal S16x2048 .f32) (ix2 r q) = (V m c main_v4 : Vec Ideal S512x2048 .f32) (ix2 ⟨16 * t.val + r.val, by have := lt_grid t; omega⟩ q) := by
  obtain ⟨_, _, _, e, -⟩ := index_in t
  blk_ext [iblk, e]

/-- the rows of `w_fnet`, -/
theorem read_fnet (t : Fin cfg0.N) (r : Fin 16) (q : Fin 1024) :
    (iblk m c 4 t : Vec Ideal S16x1024 .f32) (ix2 r q) = (V m c main_v5 : Vec Ideal S512x1024 .f32) (ix2 ⟨16 * t.val + r.val, by have := lt_grid t; omega⟩ q) := by
  obtain ⟨_, _, _, _, e, -⟩ := index_in t
  blk_ext [iblk, e]

/-- the rows of `w_out`, -/
theorem read_out (t : Fin cfg0.N) (r : Fin 32) (q : Fin 1024) :
    (iblk m c 5 t : Vec Ideal S32x1024 .f32) (ix2 r q) = (V m c main_v6 : Vec Ideal S1024x1024 .f32) (ix2 ⟨32 * t.val + r.val, by have := lt_grid t; omega⟩ q) := by
  obtain ⟨_, _, _, _, _, e, -⟩ := index_in t
  blk_ext [iblk, e]

/-- the rows of `w_up`, -/
theorem read_up (t : Fin cfg0.N) (r : Fin 32) (q : Fin 4096) :
    (iblk m c 6 t : Vec Ideal S32x4096 .f32) (ix2 r q) = (V m c main_v7 : Vec Ideal S1024x4096 .f32) (ix2 ⟨32 * t.val + r.val, by have := lt_grid t; omega⟩ q) := by
  obtain ⟨_, _, _, _, _, _, e, -⟩ := index_in t
  blk_ext [iblk, e]

/-- the rows of `w_down`, -/
theorem read_down (t : Fin cfg0.N) (r : Fin 128) (q : Fin 1024) :
    (iblk m c 7 t : Vec Ideal S128x1024 .f32) (ix2 r q) = (V m c main_v8 : Vec Ideal S4096x1024 .f32) (ix2 ⟨128 * t.val + r.val, by have := lt_grid t; omega⟩ q) := by
  obtain ⟨_, _, _, _, _, _, _, e, -⟩ := index_in t
  blk_ext [iblk, e]

/-- the rows of `w_ple_gate`. -/
theorem read_gate (t : Fin cfg0.N) (r : Fin 32) (q : Fin 1024) :
    (iblk m c 8 t : Vec Ideal S32x1024 .f32) (ix2 r q) = (V m c main_v9 : Vec Ideal S1024x1024 .f32) (ix2 ⟨32 * t.val + r.val, by have := lt_grid t; omega⟩ q) := by
  obtain ⟨_, _, _, _, _, _, _, _, e⟩ := index_in t
  blk_ext [iblk, e]

/-! ## What the kernel is launched with -/

/-- The activations' rows, -/
theorem launch_x (R : Fin 32768) (j : Fin 1024) :
    (V m c main_v0 : Vec Ideal S32768x1024 .f32) (ix2 R j) = m ((c.tc : Thread nD τ).loc main_arg0) (ix3 ⟨R.val / 2048, by omega⟩ ⟨R.val % 2048, by omega⟩ j) := by
  dsimp only [V, hostOps0]
  after_results
  pointwise

/-- the gain, -/
theorem launch_g (j : Fin 1024) :
    (V m c main_v2 : Vec Ideal S1x1024 .f32) (ix2 0 j) = m ((c.tc : Thread nD τ).loc main_arg1) (ix2 0 j) := by
  dsimp only [V, hostOps0]
  after_results
  pointwise

/-- the projection, -/
theorem launch_w (k : Fin 1024) (q : Fin 3072) :
    (V m c main_v3 : Vec Ideal S1024x3072 .f32) (ix2 k q) = m ((c.tc : Thread nD τ).loc main_arg2) (ix3 0 k q) := by
  dsimp only [V, hostOps0]
  after_results
  pointwise

/-- `w_glu`, -/
theorem launch_glu (k : Fin 512) (q : Fin 2048) :
    (V m c main_v4 : Vec Ideal S512x2048 .f32) (ix2 k q) = m ((c.tc : Thread nD τ).loc main_arg3) (ix3 0 k q) := by
  dsimp only [V, hostOps0]
  after_results
  pointwise

/-- `w_fnet`, -/
theorem launch_fnet (k : Fin 512) (q : Fin 1024) :
    (V m c main_v5 : Vec Ideal S512x1024 .f32) (ix2 k q) = m ((c.tc : Thread nD τ).loc main_arg4) (ix3 0 k q) := by
  dsimp only [V, hostOps0]
  after_results
  pointwise

/-- `w_out`, -/
theorem launch_out (k : Fin 1024) (q : Fin 1024) :
    (V m c main_v6 : Vec Ideal S1024x1024 .f32) (ix2 k q) = m ((c.tc : Thread nD τ).loc main_arg5) (ix3 0 k q) := by
  dsimp only [V, hostOps0]
  after_results
  pointwise

/-- `w_up`, -/
theorem launch_up (k : Fin 1024) (q : Fin 4096) :
    (V m c main_v7 : Vec Ideal S1024x4096 .f32) (ix2 k q) = m ((c.tc : Thread nD τ).loc main_arg6) (ix3 0 k q) := by
  dsimp only [V, hostOps0]
  after_results
  pointwise

/-- `w_down`, -/
theorem launch_down (k : Fin 4096) (q : Fin 1024) :
    (V m c main_v8 : Vec Ideal S4096x1024 .f32) (ix2 k q) = m ((c.tc : Thread nD τ).loc main_arg7) (ix3 0 k q) := by
  dsimp only [V, hostOps0]
  after_results
  pointwise

/-- `w_ple_gate`. -/
theorem launch_gate (k : Fin 1024) (q : Fin 1024) :
    (V m c main_v9 : Vec Ideal S1024x1024 .f32) (ix2 k q) = m ((c.tc : Thread nD τ).loc main_arg8) (ix3 0 k q) := by
  dsimp only [V, hostOps0]
  after_results
  pointwise

/-! ## One column of the projection of a block's token -/

/-- A block's token and the weights of the first grid point give the row of the projection. -/
theorem proj_row (t : Fin cfg0.N) (r : Fin 1024) (q : Fin 3072) :
    proj (fun j => (iblk m c 0 t : Vec Ideal S1024x1024 .f32) (ix2 r j)) (fun j => (iblk m c 1 t : Vec Ideal S1x1024 .f32) (ix2 0 j))
        (fun k => (iblk m c 2 first : Vec Ideal S1024x3072 .f32) (ix2 k q))
      = row (m ((c.tc : Thread nD τ).loc main_arg0)) (m ((c.tc : Thread nD τ).loc main_arg1)) (m ((c.tc : Thread nD τ).loc main_arg2)) ⟨1024 * t.val + r.val, by have := lt_grid t; omega⟩ q := by
  unfold row entry
  congr 1
  · funext j; exact (read_x m c t r j).trans (launch_x m c _ j)
  · funext j; exact (read_g m c t j).trans (launch_g m c j)
  · funext k; exact (read_w m c first k q).trans (launch_w m c k q)

end Cert.Inproj

end
-- ==== Proof.Inproj.Array.lean ====
module

public import proofs.«01_k».proof.Proof.Inproj.Windows

@[expose] public section

set_option maxRecDepth 16384

/-! # The ten result arrays, block by block -/

noncomputable section

namespace Cert.Inproj

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-! ## The scan's inputs -/

/-- Where a block's element lies in the array. -/
theorem place_scan (t : Fin cfg0.N) (r : Fin 1024) (q : Fin 512) :
    (((cfg0.win 9).blk t).view.emb (ix2 r q) : S32768x512.Idx) = ix2 ⟨1024 * t.val + r.val, by have := lt_grid t; omega⟩ q := by
  obtain ⟨e, -⟩ := index_out t
  funext a
  refine Fin.ext ?_
  match a with
  | ⟨0, _⟩ =>
    show _ = 1024 * t.val + r.val
    blk_simp [e]
    omega
  | ⟨1, _⟩ =>
    show _ = q.val
    blk_simp [e]

/-- What a grid point leaves, at its place in the array. -/
theorem block_scan (t : Fin cfg0.N) (y : S1024x512.Idx) :
    (outsAt0 m c t.val t.isLt).1 y = scanIn (m ((c.tc : Thread nD τ).loc main_arg0)) (m ((c.tc : Thread nD τ).loc main_arg1)) (m ((c.tc : Thread nD τ).loc main_arg2)) (((cfg0.win 9).blk t).view.emb y) := by
  idx_vars y
  rw [place_scan]
  exact (point_scan m c t y0 y1).trans (proj_row m c t y0 _)

/-- An array that holds, block by block, what the grid points leave is the result array. -/
theorem array_scan_of (Z : Vec Ideal S32768x512 .bf16)
    (h : ∀ (t : Fin cfg0.N) (y : S1024x512.Idx), (outsAt0 m c t.val t.isLt).1 y = Z (((cfg0.win 9).blk t).view.emb y)) :
    (dats m 0 c).arrAt 9 cfg0.N = Z := by
  refine (dats m 0 c).arrAt_eq_of_covers 9 Z (by decide +kernel) fun t hf y => ?_
  blk_simp
  rw [after0_9]
  exact h t y

theorem array_scan : (dats m 0 c).arrAt 9 cfg0.N = scanIn (m ((c.tc : Thread nD τ).loc main_arg0)) (m ((c.tc : Thread nD τ).loc main_arg1)) (m ((c.tc : Thread nD τ).loc main_arg2)) := array_scan_of m c _ (block_scan m c)

/-! ## The first gate -/

/-- Where a block's element lies in the array. -/
theorem place_gateA (t : Fin cfg0.N) (r : Fin 1024) (q : Fin 1024) :
    (((cfg0.win 11).blk t).view.emb (ix2 r q) : S32768x1024.Idx) = ix2 ⟨1024 * t.val + r.val, by have := lt_grid t; omega⟩ q := by
  obtain ⟨_, _, e, -⟩ := index_out t
  funext a
  refine Fin.ext ?_
  match a with
  | ⟨0, _⟩ =>
    show _ = 1024 * t.val + r.val
    blk_simp [e]
    omega
  | ⟨1, _⟩ =>
    show _ = q.val
    blk_simp [e]

/-- What a grid point leaves, at its place in the array. -/
theorem block_gateA (t : Fin cfg0.N) (y : S1024x1024.Idx) :
    (outsAt0 m c t.val t.isLt).2.2.1 y = gateA (m ((c.tc : Thread nD τ).loc main_arg0)) (m ((c.tc : Thread nD τ).loc main_arg1)) (m ((c.tc : Thread nD τ).loc main_arg2)) (((cfg0.win 11).blk t).view.emb y) := by
  idx_vars y
  rw [place_gateA]
  exact (point_gateA m c t y0 y1).trans (proj_row m c t y0 _)

/-- An array that holds, block by block, what the grid points leave is the result array. -/
theorem array_gateA_of (Z : Vec Ideal S32768x1024 .bf16)
    (h : ∀ (t : Fin cfg0.N) (y : S1024x1024.Idx), (outsAt0 m c t.val t.isLt).2.2.1 y = Z (((cfg0.win 11).blk t).view.emb y)) :
    (dats m 0 c).arrAt 11 cfg0.N = Z := by
  refine (dats m 0 c).arrAt_eq_of_covers 11 Z (by decide +kernel) fun t hf y => ?_
  blk_simp
  rw [after0_11]
  exact h t y

theorem array_gateA : (dats m 0 c).arrAt 11 cfg0.N = gateA (m ((c.tc : Thread nD τ).loc main_arg0)) (m ((c.tc : Thread nD τ).loc main_arg1)) (m ((c.tc : Thread nD τ).loc main_arg2)) := array_gateA_of m c _ (block_gateA m c)

/-! ## The second gate -/

/-- Where a block's element lies in the array. -/
theorem place_gateB (t : Fin cfg0.N) (r : Fin 1024) (q : Fin 1024) :
    (((cfg0.win 12).blk t).view.emb (ix2 r q) : S32768x1024.Idx) = ix2 ⟨1024 * t.val + r.val, by have := lt_grid t; omega⟩ q := by
  obtain ⟨_, _, _, e, -⟩ := index_out t
  funext a
  refine Fin.ext ?_
  match a with
  | ⟨0, _⟩ =>
    show _ = 1024 * t.val + r.val
    blk_simp [e]
    omega
  | ⟨1, _⟩ =>
    show _ = q.val
    blk_simp [e]

/-- What a grid point leaves, at its place in the array. -/
theorem block_gateB (t : Fin cfg0.N) (y : S1024x1024.Idx) :
    (outsAt0 m c t.val t.isLt).2.2.2.1 y = gateB (m ((c.tc : Thread nD τ).loc main_arg0)) (m ((c.tc : Thread nD τ).loc main_arg1)) (m ((c.tc : Thread nD τ).loc main_arg2)) (((cfg0.win 12).blk t).view.emb y) := by
  idx_vars y
  rw [place_gateB]
  exact (point_gateB m c t y0 y1).trans (proj_row m c t y0 _)

/-- An array that holds, block by block, what the grid points leave is the result array. -/
theorem array_gateB_of (Z : Vec Ideal S32768x1024 .bf16)
    (h : ∀ (t : Fin cfg0.N) (y : S1024x1024.Idx), (outsAt0 m c t.val t.isLt).2.2.2.1 y = Z (((cfg0.win 12).blk t).view.emb y)) :
    (dats m 0 c).arrAt 12 cfg0.N = Z := by
  refine (dats m 0 c).arrAt_eq_of_covers 12 Z (by decide +kernel) fun t hf y => ?_
  blk_simp
  rw [after0_12]
  exact h t y

theorem array_gateB : (dats m 0 c).arrAt 12 cfg0.N = gateB (m ((c.tc : Thread nD τ).loc main_arg0)) (m ((c.tc : Thread nD τ).loc main_arg1)) (m ((c.tc : Thread nD τ).loc main_arg2)) := array_gateB_of m c _ (block_gateB m c)

/-! ## `w_glu` without its axis of length one -/

/-- Where a block's element lies in the array. -/
theorem place_glu (t : Fin cfg0.N) (r : Fin 16) (q : Fin 2048) :
    (((cfg0.win 13).blk t).view.emb (ix2 r q) : S512x2048.Idx) = ix2 ⟨16 * t.val + r.val, by have := lt_grid t; omega⟩ q := by
  obtain ⟨_, _, _, _, e, -⟩ := index_out t
  funext a
  refine Fin.ext ?_
  match a with
  | ⟨0, _⟩ =>
    show _ = 16 * t.val + r.val
    blk_simp [e]
    omega
  | ⟨1, _⟩ =>
    show _ = q.val
    blk_simp [e]

/-- What a grid point leaves, at its place in the array. -/
theorem block_glu (t : Fin cfg0.N) (y : S16x2048.Idx) :
    (outsAt0 m c t.val t.isLt).2.2.2.2.1 y = layer (m ((c.tc : Thread nD τ).loc main_arg3)) (((cfg0.win 13).blk t).view.emb y) := by
  idx_vars y
  rw [place_glu]
  exact (point_glu m c t y0 y1).trans ((read_glu m c t y0 y1).trans (launch_glu m c _ y1))

/-- An array that holds, block by block, what the grid points leave is the result array. -/
theorem array_glu_of (Z : Vec Ideal S512x2048 .bf16)
    (h : ∀ (t : Fin cfg0.N) (y : S16x2048.Idx), (outsAt0 m c t.val t.isLt).2.2.2.2.1 y = Z (((cfg0.win 13).blk t).view.emb y)) :
    (dats m 0 c).arrAt 13 cfg0.N = Z := by
  refine (dats m 0 c).arrAt_eq_of_covers 13 Z (by decide +kernel) fun t hf y => ?_
  blk_simp
  rw [after0_13]
  exact h t y

theorem array_glu : (dats m 0 c).arrAt 13 cfg0.N = layer (m ((c.tc : Thread nD τ).loc main_arg3)) := array_glu_of m c _ (block_glu m c)

/-! ## `w_fnet` without its axis of length one -/

/-- Where a block's element lies in the array. -/
theorem place_fnet (t : Fin cfg0.N) (r : Fin 16) (q : Fin 1024) :
    (((cfg0.win 14).blk t).view.emb (ix2 r q) : S512x1024.Idx) = ix2 ⟨16 * t.val + r.val, by have := lt_grid t; omega⟩ q := by
  obtain ⟨_, _, _, _, _, e, -⟩ := index_out t
  funext a
  refine Fin.ext ?_
  match a with
  | ⟨0, _⟩ =>
    show _ = 16 * t.val + r.val
    blk_simp [e]
    omega
  | ⟨1, _⟩ =>
    show _ = q.val
    blk_simp [e]

/-- What a grid point leaves, at its place in the array. -/
theorem block_fnet (t : Fin cfg0.N) (y : S16x1024.Idx) :
    (outsAt0 m c t.val t.isLt).2.2.2.2.2.1 y = layer (m ((c.tc : Thread nD τ).loc main_arg4)) (((cfg0.win 14).blk t).view.emb y) := by
  idx_vars y
  rw [place_fnet]
  exact (point_fnet m c t y0 y1).trans ((read_fnet m c t y0 y1).trans (launch_fnet m c _ y1))

/-- An array that holds, block by block, what the grid points leave is the result array. -/
theorem array_fnet_of (Z : Vec Ideal S512x1024 .bf16)
    (h : ∀ (t : Fin cfg0.N) (y : S16x1024.Idx), (outsAt0 m c t.val t.isLt).2.2.2.2.2.1 y = Z (((cfg0.win 14).blk t).view.emb y)) :
    (dats m 0 c).arrAt 14 cfg0.N = Z := by
  refine (dats m 0 c).arrAt_eq_of_covers 14 Z (by decide +kernel) fun t hf y => ?_
  blk_simp
  rw [after0_14]
  exact h t y

theorem array_fnet : (dats m 0 c).arrAt 14 cfg0.N = layer (m ((c.tc : Thread nD τ).loc main_arg4)) := array_fnet_of m c _ (block_fnet m c)

/-! ## `w_out` without its axis of length one -/

/-- Where a block's element lies in the array. -/
theorem place_out (t : Fin cfg0.N) (r : Fin 32) (q : Fin 1024) :
    (((cfg0.win 15).blk t).view.emb (ix2 r q) : S1024x1024.Idx) = ix2 ⟨32 * t.val + r.val, by have := lt_grid t; omega⟩ q := by
  obtain ⟨_, _, _, _, _, _, e, -⟩ := index_out t
  funext a
  refine Fin.ext ?_
  match a with
  | ⟨0, _⟩ =>
    show _ = 32 * t.val + r.val
    blk_simp [e]
    omega
  | ⟨1, _⟩ =>
    show _ = q.val
    blk_simp [e]

/-- What a grid point leaves, at its place in the array. -/
theorem block_out (t : Fin cfg0.N) (y : S32x1024.Idx) :
    (outsAt0 m c t.val t.isLt).2.2.2.2.2.2.1 y = layer (m ((c.tc : Thread nD τ).loc main_arg5)) (((cfg0.win 15).blk t).view.emb y) := by
  idx_vars y
  rw [place_out]
  exact (point_out m c t y0 y1).trans ((read_out m c t y0 y1).trans (launch_out m c _ y1))

/-- An array that holds, block by block, what the grid points leave is the result array. -/
theorem array_out_of (Z : Vec Ideal S1024x1024 .bf16)
    (h : ∀ (t : Fin cfg0.N) (y : S32x1024.Idx), (outsAt0 m c t.val t.isLt).2.2.2.2.2.2.1 y = Z (((cfg0.win 15).blk t).view.emb y)) :
    (dats m 0 c).arrAt 15 cfg0.N = Z := by
  refine (dats m 0 c).arrAt_eq_of_covers 15 Z (by decide +kernel) fun t hf y => ?_
  blk_simp
  rw [after0_15]
  exact h t y

theorem array_out : (dats m 0 c).arrAt 15 cfg0.N = layer (m ((c.tc : Thread nD τ).loc main_arg5)) := array_out_of m c _ (block_out m c)

/-! ## `w_up` without its axis of length one -/

/-- Where a block's element lies in the array. -/
theorem place_up (t : Fin cfg0.N) (r : Fin 32) (q : Fin 4096) :
    (((cfg0.win 16).blk t).view.emb (ix2 r q) : S1024x4096.Idx) = ix2 ⟨32 * t.val + r.val, by have := lt_grid t; omega⟩ q := by
  obtain ⟨_, _, _, _, _, _, _, e, -⟩ := index_out t
  funext a
  refine Fin.ext ?_
  match a with
  | ⟨0, _⟩ =>
    show _ = 32 * t.val + r.val
    blk_simp [e]
    omega
  | ⟨1, _⟩ =>
    show _ = q.val
    blk_simp [e]

/-- What a grid point leaves, at its place in the array. -/
theorem block_up (t : Fin cfg0.N) (y : S32x4096.Idx) :
    (outsAt0 m c t.val t.isLt).2.2.2.2.2.2.2.1 y = layer (m ((c.tc : Thread nD τ).loc main_arg6)) (((cfg0.win 16).blk t).view.emb y) := by
  idx_vars y
  rw [place_up]
  exact (point_up m c t y0 y1).trans ((read_up m c t y0 y1).trans (launch_up m c _ y1))

/-- An array that holds, block by block, what the grid points leave is the result array. -/
theorem array_up_of (Z : Vec Ideal S1024x4096 .bf16)
    (h : ∀ (t : Fin cfg0.N) (y : S32x4096.Idx), (outsAt0 m c t.val t.isLt).2.2.2.2.2.2.2.1 y = Z (((cfg0.win 16).blk t).view.emb y)) :
    (dats m 0 c).arrAt 16 cfg0.N = Z := by
  refine (dats m 0 c).arrAt_eq_of_covers 16 Z (by decide +kernel) fun t hf y => ?_
  blk_simp
  rw [after0_16]
  exact h t y

theorem array_up : (dats m 0 c).arrAt 16 cfg0.N = layer (m ((c.tc : Thread nD τ).loc main_arg6)) := array_up_of m c _ (block_up m c)

/-! ## `w_down` without its axis of length one -/

/-- Where a block's element lies in the array. -/
theorem place_down (t : Fin cfg0.N) (r : Fin 128) (q : Fin 1024) :
    (((cfg0.win 17).blk t).view.emb (ix2 r q) : S4096x1024.Idx) = ix2 ⟨128 * t.val + r.val, by have := lt_grid t; omega⟩ q := by
  obtain ⟨_, _, _, _, _, _, _, _, e, -⟩ := index_out t
  funext a
  refine Fin.ext ?_
  match a with
  | ⟨0, _⟩ =>
    show _ = 128 * t.val + r.val
    blk_simp [e]
    omega
  | ⟨1, _⟩ =>
    show _ = q.val
    blk_simp [e]

/-- What a grid point leaves, at its place in the array. -/
theorem block_down (t : Fin cfg0.N) (y : S128x1024.Idx) :
    (outsAt0 m c t.val t.isLt).2.2.2.2.2.2.2.2.1 y = layer (m ((c.tc : Thread nD τ).loc main_arg7)) (((cfg0.win 17).blk t).view.emb y) := by
  idx_vars y
  rw [place_down]
  exact (point_down m c t y0 y1).trans ((read_down m c t y0 y1).trans (launch_down m c _ y1))

/-- An array that holds, block by block, what the grid points leave is the result array. -/
theorem array_down_of (Z : Vec Ideal S4096x1024 .bf16)
    (h : ∀ (t : Fin cfg0.N) (y : S128x1024.Idx), (outsAt0 m c t.val t.isLt).2.2.2.2.2.2.2.2.1 y = Z (((cfg0.win 17).blk t).view.emb y)) :
    (dats m 0 c).arrAt 17 cfg0.N = Z := by
  refine (dats m 0 c).arrAt_eq_of_covers 17 Z (by decide +kernel) fun t hf y => ?_
  blk_simp
  rw [after0_17]
  exact h t y

theorem array_down : (dats m 0 c).arrAt 17 cfg0.N = layer (m ((c.tc : Thread nD τ).loc main_arg7)) := array_down_of m c _ (block_down m c)

/-! ## `w_ple_gate` without its axis of length one -/

/-- Where a block's element lies in the array. -/
theorem place_gate (t : Fin cfg0.N) (r : Fin 32) (q : Fin 1024) :
    (((cfg0.win 18).blk t).view.emb (ix2 r q) : S1024x1024.Idx) = ix2 ⟨32 * t.val + r.val, by have := lt_grid t; omega⟩ q := by
  obtain ⟨_, _, _, _, _, _, _, _, _, e⟩ := index_out t
  funext a
  refine Fin.ext ?_
  match a with
  | ⟨0, _⟩ =>
    show _ = 32 * t.val + r.val
    blk_simp [e]
    omega
  | ⟨1, _⟩ =>
    show _ = q.val
    blk_simp [e]

/-- What a grid point leaves, at its place in the array. -/
theorem block_gate (t : Fin cfg0.N) (y : S32x1024.Idx) :
    (outsAt0 m c t.val t.isLt).2.2.2.2.2.2.2.2.2.1 y = layer (m ((c.tc : Thread nD τ).loc main_arg8)) (((cfg0.win 18).blk t).view.emb y) := by
  idx_vars y
  rw [place_gate]
  exact (point_gate m c t y0 y1).trans ((read_gate m c t y0 y1).trans (launch_gate m c _ y1))

/-- An array that holds, block by block, what the grid points leave is the result array. -/
theorem array_gate_of (Z : Vec Ideal S1024x1024 .bf16)
    (h : ∀ (t : Fin cfg0.N) (y : S32x1024.Idx), (outsAt0 m c t.val t.isLt).2.2.2.2.2.2.2.2.2.1 y = Z (((cfg0.win 18).blk t).view.emb y)) :
    (dats m 0 c).arrAt 18 cfg0.N = Z := by
  refine (dats m 0 c).arrAt_eq_of_covers 18 Z (by decide +kernel) fun t hf y => ?_
  blk_simp
  rw [after0_18]
  exact h t y

theorem array_gate : (dats m 0 c).arrAt 18 cfg0.N = layer (m ((c.tc : Thread nD τ).loc main_arg8)) := array_gate_of m c _ (block_gate m c)

/-! ## The mixer's inputs -/

/-- Where a block's element lies in the array. -/
theorem place_mixer (t : Fin cfg0.N) (s : Fin 8) (r : Fin 128) (q : Fin 512) :
    (((cfg0.win 10).blk t).view.emb (ix4 0 s r q) : S16x8x256x512.Idx)
      = ix4 ⟨t.val / 2, by have := lt_grid t; omega⟩ s ⟨128 * (t.val % 2) + r.val, by omega⟩ q := by
  obtain ⟨_, e, -⟩ := index_out t
  funext a
  refine Fin.ext ?_
  match a with
  | ⟨0, _⟩ =>
    show _ = t.val / 2
    blk_simp [e]
    rfl
  | ⟨1, _⟩ =>
    show _ = s.val
    blk_simp [e]
  | ⟨2, _⟩ =>
    show _ = 128 * (t.val % 2) + r.val
    blk_simp [e]
    omega
  | ⟨3, _⟩ =>
    show _ = q.val
    blk_simp [e]

/-- The block's position in a sequence: block `t` starts at position `1024 * (t % 2)` of sequence `t / 2`. -/
theorem row_mixer (X : Vec Ideal ⟨3, ![16, 2048, 1024]⟩ .f32) (G : Vec Ideal ⟨2, ![1, 1024]⟩ .f32) (W : Vec Ideal ⟨3, ![1, 1024, 3072]⟩ .f32)
    (t : ℕ) (ht : t < 32) (s : Fin 8) (r : Fin 128) (q : Fin 512) :
    row X G W ⟨1024 * t + (8 * r.val + s.val), by omega⟩ ⟨512 + q.val, by omega⟩
      = mixerIn X G W (ix4 ⟨t / 2, by omega⟩ s ⟨128 * (t % 2) + r.val, by omega⟩ q) := by
  unfold row mixerIn
  refine congrArg₂ (fun b n => entry X G W b n _) (Fin.ext ?_) (Fin.ext ?_)
  · show (1024 * t + (8 * r.val + s.val)) / 2048 = t / 2
    omega
  · show (1024 * t + (8 * r.val + s.val)) % 2048 = 8 * (128 * (t % 2) + r.val) + s.val
    omega

/-- What a grid point leaves, at its place in the array. -/
theorem block_mixer (t : Fin cfg0.N) (y : S1x8x128x512.Idx) :
    (outsAt0 m c t.val t.isLt).2.1 y = mixerIn (m ((c.tc : Thread nD τ).loc main_arg0)) (m ((c.tc : Thread nD τ).loc main_arg1)) (m ((c.tc : Thread nD τ).loc main_arg2)) (((cfg0.win 10).blk t).view.emb y) := by
  idx_vars y
  rw [Subsingleton.elim y0 0, place_mixer, ← row_mixer _ _ _ t.val (lt_grid t)]
  refine (congrFun (point_mixer m c t inb_S1024x3072_S1024x512_0_512) _).trans ?_
  refine (pay3_eq (iblk m c 0 t) (iblk m c 1 t) (k0_pay1 (iblk m c 2 first)) _ _ _).trans ?_
  simp only [pay1_eq]
  exact proj_row m c t ⟨8 * y2.val + y1.val, by omega⟩ ⟨512 + y3.val, by omega⟩

/-- An array that holds, block by block, what the grid points leave is the result array. -/
theorem array_mixer_of (Z : Vec Ideal S16x8x256x512 .bf16)
    (h : ∀ (t : Fin cfg0.N) (y : S1x8x128x512.Idx), (outsAt0 m c t.val t.isLt).2.1 y = Z (((cfg0.win 10).blk t).view.emb y)) :
    (dats m 0 c).arrAt 10 cfg0.N = Z := by
  refine (dats m 0 c).arrAt_eq_of_covers 10 Z (by decide +kernel) fun t hf y => ?_
  blk_simp
  rw [after0_10]
  exact h t y

theorem array_mixer : (dats m 0 c).arrAt 10 cfg0.N = mixerIn (m ((c.tc : Thread nD τ).loc main_arg0)) (m ((c.tc : Thread nD τ).loc main_arg1)) (m ((c.tc : Thread nD τ).loc main_arg2)) := array_mixer_of m c _ (block_mixer m c)

end Cert.Inproj

end
-- ==== Proof.Inproj.Reference.lean ====
module

public import proofs.«01_k».proof.Proof.Gen.Reference3Ideal.Read
public import proofs.«01_k».proof.Proof.Inproj.Spec
public import Idealize.ShloMosaic.Lib.Pointwise

@[expose] public section

set_option maxRecDepth 16384

/-! # The reference computes the same -/

noncomputable section

namespace Cert.Inproj

open Cert.Reference3Ideal Cert.Reference3Ideal.Gen Cert.Reference3Ideal.Read Idealize.ShloMosaic Idealize.ShloMosaic.TcCoe Idealize.SL.Sem

/-- The whole projection. -/
theorem ref_entry (X : Vec Ideal ⟨3, ![16, 2048, 1024]⟩ .f32) (G : Vec Ideal ⟨2, ![1, 1024]⟩ .f32) (W : Vec Ideal ⟨3, ![1, 1024, 3072]⟩ .f32) (b : Fin 16) (n : Fin 2048) (q : Fin 3072) :
    val_main_v15 (F := Ideal) X G W (ix3 b n q) = entry X G W b n q := by
  unfold
    val_main_v15 val_main_v14 val_main_v13 val_main_v12 val_main_v11 val_main_v0 val_main_v10 val_main_v9 val_main_v8 val_main_v7 val_main_v6 val_main_cst_1 val_main_v5 val_main_v4 val_main_cst_0 val_main_v3 val_main_v2 val_main_cst val_main_v1
  pointwise
  rfl

/-- The scan's inputs. -/
theorem ref_scanIn (X : Vec Ideal ⟨3, ![16, 2048, 1024]⟩ .f32) (G : Vec Ideal ⟨2, ![1, 1024]⟩ .f32) (W : Vec Ideal ⟨3, ![1, 1024, 3072]⟩ .f32) : val_main_v23 (F := Ideal) X G W = scanIn X G W := by
  funext i
  idx_vars i
  have e := ref_entry X G W
  unfold val_main_v23 val_main_v22 val_main_v16
  generalize val_main_v15 X G W = Z at e ⊢
  pointwise
  exact e _ _ _

/-- The mixer's inputs. -/
theorem ref_mixerIn (X : Vec Ideal ⟨3, ![16, 2048, 1024]⟩ .f32) (G : Vec Ideal ⟨2, ![1, 1024]⟩ .f32) (W : Vec Ideal ⟨3, ![1, 1024, 3072]⟩ .f32) : val_main_v24 (F := Ideal) X G W = mixerIn X G W := by
  funext i
  idx_vars i
  have e := ref_entry X G W
  unfold val_main_v24 val_main_v21 val_main_v20 val_main_v17
  generalize val_main_v15 X G W = Z at e ⊢
  pointwise
  refine (e _ _ _).trans (congrArg (fun n => entry X G W i0 n _) (Fin.ext ?_))
  show i2.val * 8 + i1.val = 8 * i2.val + i1.val
  omega

/-- The first gate. -/
theorem ref_gateA (X : Vec Ideal ⟨3, ![16, 2048, 1024]⟩ .f32) (G : Vec Ideal ⟨2, ![1, 1024]⟩ .f32) (W : Vec Ideal ⟨3, ![1, 1024, 3072]⟩ .f32) : val_main_v26 (F := Ideal) X G W = gateA X G W := by
  funext i
  idx_vars i
  have e := ref_entry X G W
  unfold val_main_v26 val_main_v25 val_main_v18
  generalize val_main_v15 X G W = Z at e ⊢
  pointwise
  exact e _ _ _

/-- The second gate. -/
theorem ref_gateB (X : Vec Ideal ⟨3, ![16, 2048, 1024]⟩ .f32) (G : Vec Ideal ⟨2, ![1, 1024]⟩ .f32) (W : Vec Ideal ⟨3, ![1, 1024, 3072]⟩ .f32) : val_main_v28 (F := Ideal) X G W = gateB X G W := by
  funext i
  idx_vars i
  have e := ref_entry X G W
  unfold val_main_v28 val_main_v27 val_main_v19
  generalize val_main_v15 X G W = Z at e ⊢
  pointwise
  exact e _ _ _

/-- `w_glu`. -/
theorem ref_glu (w : Vec Ideal ⟨3, ![1, 512, 2048]⟩ .f32) : val_main_v30 (F := Ideal) w = layer w := by
  funext i
  idx_vars i
  unfold val_main_v30 val_main_v29
  pointwise
  rfl

/-- `w_fnet`. -/
theorem ref_fnet (w : Vec Ideal ⟨3, ![1, 512, 1024]⟩ .f32) : val_main_v32 (F := Ideal) w = layer w := by
  funext i
  idx_vars i
  unfold val_main_v32 val_main_v31
  pointwise
  rfl

/-- `w_out`. -/
theorem ref_out (w : Vec Ideal ⟨3, ![1, 1024, 1024]⟩ .f32) : val_main_v34 (F := Ideal) w = layer w := by
  funext i
  idx_vars i
  unfold val_main_v34 val_main_v33
  pointwise
  rfl

/-- `w_up`. -/
theorem ref_up (w : Vec Ideal ⟨3, ![1, 1024, 4096]⟩ .f32) : val_main_v36 (F := Ideal) w = layer w := by
  funext i
  idx_vars i
  unfold val_main_v36 val_main_v35
  pointwise
  rfl

/-- `w_down`. -/
theorem ref_down (w : Vec Ideal ⟨3, ![1, 4096, 1024]⟩ .f32) : val_main_v38 (F := Ideal) w = layer w := by
  funext i
  idx_vars i
  unfold val_main_v38 val_main_v37
  pointwise
  rfl

/-- `w_ple_gate`. -/
theorem ref_gate (w : Vec Ideal ⟨3, ![1, 1024, 1024]⟩ .f32) : val_main_v40 (F := Ideal) w = layer w := by
  funext i
  idx_vars i
  unfold val_main_v40 val_main_v39
  pointwise
  rfl

end Cert.Inproj

end
-- ==== Proof.Inproj.Equation.lean ====
module

public import proofs.«01_k».proof.Defs
public import proofs.«01_k».proof.Proof.Inproj.Array
public import proofs.«01_k».proof.Proof.Inproj.Reference
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

/-! # The input projection: the kernel's ten arrays are the reference's -/

noncomputable section

namespace Cert.Inproj

open Idealize.ShloMosaic Idealize.ShloMosaic.TcCoe Idealize.SL.Sem

/-- Over the extended reals, from the same arguments, the kernel and the reference end with the same ten arrays, whatever the
    arguments hold: the projection's four parts as `scanIn`, `mixerIn`, `gateA` and `gateB` state, and six weights as `layer` does. -/
theorem algebraic :
    Cert.algebraic_Kernel3Ideal_Reference3Ideal (hKernel3Ideal := Cert.Kernel3Ideal.Gen.facts)
      (hReference3Ideal := Cert.Reference3Ideal.Gen.facts) := fun m ρ m' ρ' _ ha => by
  refine ⟨fun c => scanIn (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => mixerIn (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => gateA (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => gateB (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => layer (m ((c.tc : Thread Cert.Kernel3Ideal.nD Cert.Kernel3Ideal.τ).loc Cert.Kernel3Ideal.main_arg3)),
    fun c => layer (m ((c.tc : Thread Cert.Kernel3Ideal.nD Cert.Kernel3Ideal.τ).loc Cert.Kernel3Ideal.main_arg4)),
    fun c => layer (m ((c.tc : Thread Cert.Kernel3Ideal.nD Cert.Kernel3Ideal.τ).loc Cert.Kernel3Ideal.main_arg5)),
    fun c => layer (m ((c.tc : Thread Cert.Kernel3Ideal.nD Cert.Kernel3Ideal.τ).loc Cert.Kernel3Ideal.main_arg6)),
    fun c => layer (m ((c.tc : Thread Cert.Kernel3Ideal.nD Cert.Kernel3Ideal.τ).loc Cert.Kernel3Ideal.main_arg7)),
    fun c => layer (m ((c.tc : Thread Cert.Kernel3Ideal.nD Cert.Kernel3Ideal.τ).loc Cert.Kernel3Ideal.main_arg8)), ?_, ?_⟩
  · exact (θ_run Cert.Kernel3Ideal.defs _ _).mono (fun _ h c => ⟨(h c).1.trans (array_scan m c),
      (h c).2.1.trans (array_mixer m c),
      (h c).2.2.1.trans (array_gateA m c),
      (h c).2.2.2.1.trans (array_gateB m c),
      (h c).2.2.2.2.1.trans (array_glu m c),
      (h c).2.2.2.2.2.1.trans (array_fnet m c),
      (h c).2.2.2.2.2.2.1.trans (array_out m c),
      (h c).2.2.2.2.2.2.2.1.trans (array_up m c),
      (h c).2.2.2.2.2.2.2.2.1.trans (array_down m c),
      (h c).2.2.2.2.2.2.2.2.2.1.trans (array_gate m c), (h c).2.2.2.2.2.2.2.2.2.2⟩) (Cert.Kernel3Ideal.Value.run_blocks m ρ)
  · refine (θ_run Cert.Reference3Ideal.defs _ _).mono (fun _ h c => ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2.1.trans ?_,
      (h c).2.2.2.2.2.2.2.2.1.trans ?_,
      (h c).2.2.2.2.2.2.2.2.2.1.trans ?_, (h c).2.2.2.2.2.2.2.2.2.2⟩) (Cert.Reference3Ideal.Value.run m' ρ')
    all_goals obtain ⟨e0, e1, e2, e3, e4, e5, e6, e7, e8⟩ := ha c
    · refine (Cert.Reference3Ideal.Read.val_main_v23_eq _ _ _).trans ((ref_scanIn _ _ _).trans ?_)
      show scanIn (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
      rw [e0, e1, e2]
    · refine (Cert.Reference3Ideal.Read.val_main_v24_eq _ _ _).trans ((ref_mixerIn _ _ _).trans ?_)
      show mixerIn (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
      rw [e0, e1, e2]
    · refine (Cert.Reference3Ideal.Read.val_main_v26_eq _ _ _).trans ((ref_gateA _ _ _).trans ?_)
      show gateA (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
      rw [e0, e1, e2]
    · refine (Cert.Reference3Ideal.Read.val_main_v28_eq _ _ _).trans ((ref_gateB _ _ _).trans ?_)
      show gateB (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
      rw [e0, e1, e2]
    · refine (Cert.Reference3Ideal.Read.val_main_v30_eq _).trans ((ref_glu _).trans ?_)
      show layer (m' ((c.tc : Thread Cert.Reference3Ideal.nD Cert.Reference3Ideal.τ).loc Cert.Reference3Ideal.main_arg3)) = _
      rw [e3]
    · refine (Cert.Reference3Ideal.Read.val_main_v32_eq _).trans ((ref_fnet _).trans ?_)
      show layer (m' ((c.tc : Thread Cert.Reference3Ideal.nD Cert.Reference3Ideal.τ).loc Cert.Reference3Ideal.main_arg4)) = _
      rw [e4]
    · refine (Cert.Reference3Ideal.Read.val_main_v34_eq _).trans ((ref_out _).trans ?_)
      show layer (m' ((c.tc : Thread Cert.Reference3Ideal.nD Cert.Reference3Ideal.τ).loc Cert.Reference3Ideal.main_arg5)) = _
      rw [e5]
    · refine (Cert.Reference3Ideal.Read.val_main_v36_eq _).trans ((ref_up _).trans ?_)
      show layer (m' ((c.tc : Thread Cert.Reference3Ideal.nD Cert.Reference3Ideal.τ).loc Cert.Reference3Ideal.main_arg6)) = _
      rw [e6]
    · refine (Cert.Reference3Ideal.Read.val_main_v38_eq _).trans ((ref_down _).trans ?_)
      show layer (m' ((c.tc : Thread Cert.Reference3Ideal.nD Cert.Reference3Ideal.τ).loc Cert.Reference3Ideal.main_arg7)) = _
      rw [e7]
    · refine (Cert.Reference3Ideal.Read.val_main_v40_eq _).trans ((ref_gate _).trans ?_)
      show layer (m' ((c.tc : Thread Cert.Reference3Ideal.nD Cert.Reference3Ideal.τ).loc Cert.Reference3Ideal.main_arg8)) = _
      rw [e8]

end Cert.Inproj

end
-- ==== Proof.Merge.Block.lean ====
module

public import proofs.«01_k».proof.Proof.Gen.Kernel2Ideal.Value
public import proofs.«01_k».proof.Proof.Merge.Spec
public import Idealize.ShloMosaic.Lib.Pointwise
public import Idealize.ShloMosaic.Lib.Pipeline.ValueKit

@[expose] public section

set_option maxRecDepth 16384

/-! # What one block of the kernel holds: the tokens of its rows -/

noncomputable section

namespace Cert.Merge

open Cert.Kernel2Ideal Cert.Kernel2Ideal.Gen Idealize.ShloMosaic Idealize.ShloMosaic.TcCoe Idealize.SL.Sem

/-- The kernel's form of GELU, multiplied in another order. -/
theorem gelu_form (s : EReal) :
    Ideal.ofBits .f32 0x3F000000#32 * s * (1 + Ideal.tanh (Ideal.ofBits .f32 0x3F4C422A#32 * (s + Ideal.ofBits .f32 0x3D372713#32 * (s * s * s))))
      = gelu s := by
  unfold gelu
  rw [mul_comm _ s, mul_assoc]

/-- Both products of the gated linear unit. -/
theorem pay4_eq (y u : Vec Ideal S512x512 .bf16) (d : Vec Ideal S1x512 .f32) (w : Vec Ideal S512x2048 .bf16) (r : Fin 512) (j : Fin 2048) :
    k0_pay4 y d u w (ix2 r j) = ∑ l : Fin 512, gelu (y (ix2 r l) + d (ix2 0 l) * u (ix2 r l)) * w (ix2 l j) := by
  unfold k0_pay4
  pointwise
  exact Finset.sum_congr rfl fun l _ => congrArg (· * w (ix2 l j)) (gelu_form _)

/-- The scan branch of a row. -/
theorem glu_eq (y u : Vec Ideal S512x512 .bf16) (d : Vec Ideal S1x512 .f32) (w : Vec Ideal S512x2048 .bf16) (r : Fin 512) (j : Fin 1024) :
    k0_pay5 y d u w (ix2 r j) * k0_pay6 y d u w (ix2 r j)
      = glu (fun l => u (ix2 r l)) (fun l => y (ix2 r l)) (fun l => d (ix2 0 l)) (fun l j => w (ix2 l j)) j := by
  unfold k0_pay5 k0_pay6
  have h := pay4_eq y u d w r
  generalize k0_pay4 y d u w = Z at h ⊢
  pointwise
  rw [h, h]
  rfl

/-- The residual after the branches. -/
theorem pay7_eq (mx : FVec Ideal S512x512 .bf16) (x v g : FVec Ideal S512x1024 .f32) (wf : Vec Ideal S512x1024 .bf16) (za zb : Vec Ideal S512x1024 .bf16)
    (wo : Vec Ideal S1024x1024 .bf16) (r : Fin 512) (j : Fin 1024) :
    k0_pay7 mx x v g wf za zb wo (ix2 r j)
      = merged (fun j => x (ix2 r j)) (fun j => v (ix2 r j) * g (ix2 r j)) (fun j => ∑ l : Fin 512, mx (ix2 r l) * wf (ix2 l j))
          (fun j => za (ix2 r j)) (fun j => zb (ix2 r j)) (fun l j => wo (ix2 l j)) j := by
  unfold k0_pay7
  pointwise
  rfl

/-- The hidden units. -/
theorem pay8_eq (mx : FVec Ideal S512x512 .bf16) (x v g : FVec Ideal S512x1024 .f32) (wf : Vec Ideal S512x1024 .bf16) (za zb : Vec Ideal S512x1024 .bf16)
    (wo : Vec Ideal S1024x1024 .bf16) (gf : Vec Ideal S1x1024 .f32) (wu : Vec Ideal S1024x4096 .bf16) (r : Fin 512) (q : Fin 4096) :
    k0_pay8 mx x v g wf za zb wo gf wu (ix2 r q)
      = hidden (fun j => k0_pay7 mx x v g wf za zb wo (ix2 r j)) (fun j => gf (ix2 0 j)) (fun k q => wu (ix2 k q)) q := by
  unfold k0_pay8
  generalize k0_pay7 mx x v g wf za zb wo = Z
  pointwise
  rfl

/-- The residual after the layer embedding. -/
theorem pay9_eq (x : FVec Ideal S512x1024 .f32) (h : FVec Ideal S512x4096 .f32) (wd : Vec Ideal S4096x1024 .bf16) (gp : Vec Ideal S1x1024 .f32)
    (wg : Vec Ideal S1024x1024 .bf16) (p : Vec Ideal S512x256 .f32) (wp : Vec Ideal S256x1024 .bf16) (r : Fin 512) (j : Fin 1024) :
    k0_pay9 x h wd gp wg p wp (ix2 r j)
      = embedded (fed (fun j => x (ix2 r j)) (fun q => h (ix2 r q)) (fun q j => wd (ix2 q j))) (fun j => gp (ix2 0 j)) (fun k j => wg (ix2 k j))
          (fun k => p (ix2 r k)) (fun k j => wp (ix2 k j)) j := by
  unfold k0_pay9
  pointwise
  rfl

/-- The final norm. -/
theorem pay1_eq (x : FVec Ideal S512x1024 .f32) (h : FVec Ideal S512x4096 .f32) (wd : Vec Ideal S4096x1024 .bf16) (gp : Vec Ideal S1x1024 .f32)
    (wg : Vec Ideal S1024x1024 .bf16) (p : Vec Ideal S512x256 .f32) (wp : Vec Ideal S256x1024 .bf16) (gf : Vec Ideal S1x1024 .f32) (r : Fin 512) (j : Fin 1024) :
    k0_pay1 (k0_pay9 x h wd gp wg p wp) (k0_pay10 gf) (k0_pay11 x h wd gp wg p wp) (Scalar.ofBits .f32 0x358637BD#32) (ix2 r j)
      = norm (fun j => k0_pay9 x h wd gp wg p wp (ix2 r j)) (fun j => gf (ix2 0 j)) j := by
  unfold k0_pay1 k0_pay10 k0_pay11
  generalize k0_pay9 x h wd gp wg p wp = Z
  pointwise
  rfl

/-- A block's row `r`, with the mixer's rows taken from the first half of the batch in the first 32 blocks and from the second half after. -/
def rowOf (i : grid0.Coords) (x0 : Vec Ideal S512x1024 .f32) (x1 x2 x3 x4 : Vec Ideal S512x512 .bf16) (x5 x6 : Vec Ideal S512x1024 .bf16) (x7 : Vec Ideal S512x256 .f32)
    (r : Fin 512) : Token where
  x j := x0 (ix2 r j)
  u l := x1 (ix2 r l)
  y l := x2 (ix2 r l)
  mixed l := if (i 0).val < 32 then x3 (ix2 r l) else x4 (ix2 r l)
  za j := x5 (ix2 r j)
  zb j := x6 (ix2 r j)
  p k := x7 (ix2 r k)

/-- The weights of a block. -/
def weightsOf (x8 : Vec Ideal S1x512 .f32) (x9 : Vec Ideal S512x2048 .bf16) (x10 : Vec Ideal S512x1024 .bf16) (x11 : Vec Ideal S1024x1024 .bf16) (x12 : Vec Ideal S1x1024 .f32)
    (x13 : Vec Ideal S1024x4096 .bf16) (x14 : Vec Ideal S4096x1024 .bf16) (x15 : Vec Ideal S1x1024 .f32) (x16 : Vec Ideal S1024x1024 .bf16) (x17 : Vec Ideal S256x1024 .bf16)
    (x18 : Vec Ideal S1x1024 .f32) : Weights where
  skip l := x8 (ix2 0 l)
  glu l j := x9 (ix2 l j)
  fnet l j := x10 (ix2 l j)
  out l j := x11 (ix2 l j)
  gFfn j := x12 (ix2 0 j)
  up k q := x13 (ix2 k q)
  down q j := x14 (ix2 q j)
  gPle j := x15 (ix2 0 j)
  gate k j := x16 (ix2 k j)
  ple k j := x17 (ix2 k j)
  gFinal j := x18 (ix2 0 j)

/-- The residual's block is read as it is. -/
theorem pay3_eq (x : Vec Ideal S512x1024 .f32) (r : Fin 512) (j : Fin 1024) : k0_pay3 x (ix2 r j) = x (ix2 r j) := by
  unfold k0_pay3
  pointwise

/-- The choice between the halves. -/
theorem pay2_eq (i : grid0.Coords) (a b : Vec Ideal S512x512 .bf16) (r l : Fin 512) :
    k0_pay2 i a b (ix2 r l) = if (i 0).val < 32 then a (ix2 r l) else b (ix2 r l) := by
  unfold k0_pay2
  pointwise
  have h : (i 0).val < 64 := (i 0).isLt
  generalize (i 0).val = n at h ⊢
  have e : Scalar.cmpi .slt (BitVec.ofNat 32 n) 32#32 = if n < 32 then 1#1 else 0#1 := by
    interval_cases n <;> rfl
  rw [e]
  split_ifs <;> rfl

/-- What a grid point leaves in the output block, row by row. -/
theorem out_eq (i : grid0.Coords) (x0 : Vec Ideal S512x1024 .f32) (x1 x2 x3 x4 : Vec Ideal S512x512 .bf16) (x5 x6 : Vec Ideal S512x1024 .bf16) (x7 : Vec Ideal S512x256 .f32)
    (x8 : Vec Ideal S1x512 .f32) (x9 : Vec Ideal S512x2048 .bf16) (x10 : Vec Ideal S512x1024 .bf16) (x11 : Vec Ideal S1024x1024 .bf16) (x12 : Vec Ideal S1x1024 .f32)
    (x13 : Vec Ideal S1024x4096 .bf16) (x14 : Vec Ideal S4096x1024 .bf16) (x15 : Vec Ideal S1x1024 .f32) (x16 : Vec Ideal S1024x1024 .bf16) (x17 : Vec Ideal S256x1024 .bf16)
    (x18 : Vec Ideal S1x1024 .f32) (r : Fin 512) (j : Fin 1024) :
    out0_19 i x0 x1 x2 x3 x4 x5 x6 x7 x8 x9 x10 x11 x12 x13 x14 x15 x16 x17 x18 (ix2 r j)
      = token (weightsOf x8 x9 x10 x11 x12 x13 x14 x15 x16 x17 x18) (rowOf i x0 x1 x2 x3 x4 x5 x6 x7 r) j := by
  unfold_out out0_19
  have h0 : ∀ {e} (x : Vec Ideal S512x512 e), View.ld x r0_0 = x := fun x => View.ld_unit_lit _ x (by decide)
  have h1 : ∀ {e} (x : Vec Ideal S512x1024 e), View.ld x r0_1 = x := fun x => View.ld_unit_lit _ x (by decide)
  have h2 : ∀ {e} (x : Vec Ideal S1x512 e), View.ld x r0_2 = x := fun x => View.ld_unit_lit _ x (by decide)
  have h3 : ∀ {e} (x : Vec Ideal S512x2048 e), View.ld x r0_3 = x := fun x => View.ld_unit_lit _ x (by decide)
  have h4 : ∀ {e} (x : Vec Ideal S1024x1024 e), View.ld x r0_4 = x := fun x => View.ld_unit_lit _ x (by decide)
  have h5 : ∀ {e} (x : Vec Ideal S1x1024 e), View.ld x r0_5 = x := fun x => View.ld_unit_lit _ x (by decide)
  have h6 : ∀ {e} (x : Vec Ideal S1024x4096 e), View.ld x r0_6 = x := fun x => View.ld_unit_lit _ x (by decide)
  have h7 : ∀ {e} (x : Vec Ideal S4096x1024 e), View.ld x r0_7 = x := fun x => View.ld_unit_lit _ x (by decide)
  have h8 : ∀ {e} (x : Vec Ideal S512x256 e), View.ld x r0_8 = x := fun x => View.ld_unit_lit _ x (by decide)
  have h9 : ∀ {e} (x : Vec Ideal S256x1024 e), View.ld x r0_9 = x := fun x => View.ld_unit_lit _ x (by decide)
  simp only [h0, h1, h2, h3, h4, h5, h6, h7, h8, h9]
  rw [View.canon_cons_unit_lit _ _ _ (by decide)]
  rw [pay1_eq]
  simp only [pay9_eq, pay8_eq, pay7_eq, glu_eq, pay2_eq, pay3_eq]
  rfl

end Cert.Merge

end
-- ==== Proof.Merge.Layer.lean ====
module

public import proofs.«01_k».proof.Proof.Merge.Spec

@[expose] public section

/-! # The same, over the arrays the program is given -/

noncomputable section

namespace Cert.Merge

open Idealize.ShloMosaic

/-- The weights, read from their arrays. -/
def weights (x7 : Vec Ideal ⟨2, ![1, 512]⟩ .f32) (x8 : Vec Ideal ⟨3, ![1, 512, 2048]⟩ .f32) (x9 : Vec Ideal ⟨3, ![1, 512, 1024]⟩ .f32) (x10 : Vec Ideal ⟨3, ![1, 1024, 1024]⟩ .f32) (x11 : Vec Ideal ⟨2, ![1, 1024]⟩ .f32) (x12 : Vec Ideal ⟨3, ![1, 1024, 4096]⟩ .f32) (x13 : Vec Ideal ⟨3, ![1, 4096, 1024]⟩ .f32) (x14 : Vec Ideal ⟨2, ![1, 1024]⟩ .f32) (x15 : Vec Ideal ⟨3, ![1, 1024, 1024]⟩ .f32) (x16 : Vec Ideal ⟨3, ![1, 256, 1024]⟩ .f32) (x17 : Vec Ideal ⟨1, ![1024]⟩ .f32) : Weights where
  skip l := x7 (ix2 0 l)
  glu l j := x8 (ix3 0 l j)
  fnet l j := x9 (ix3 0 l j)
  out l j := x10 (ix3 0 l j)
  gFfn j := x11 (ix2 0 j)
  up k q := x12 (ix3 0 k q)
  down q j := x13 (ix3 0 q j)
  gPle j := x14 (ix2 0 j)
  gate k j := x15 (ix3 0 k j)
  ple k j := x16 (ix3 0 k j)
  gFinal j := x17 (ix1 j)

/-- The rows of the token at position `n` of sequence `b`. -/
def rows (x0 : Vec Ideal ⟨3, ![16, 2048, 1024]⟩ .f32) (x1 : Vec Ideal ⟨3, ![16, 2048, 512]⟩ .bf16) (x2 : Vec Ideal ⟨3, ![16, 2048, 512]⟩ .bf16) (x3 : Vec Ideal ⟨3, ![16, 2048, 512]⟩ .bf16) (x4 : Vec Ideal ⟨3, ![16, 2048, 1024]⟩ .bf16) (x5 : Vec Ideal ⟨3, ![16, 2048, 1024]⟩ .bf16) (x6 : Vec Ideal ⟨4, ![1, 16, 2048, 256]⟩ .f32) (b : Fin 16) (n : Fin 2048) : Token where
  x j := x0 (ix3 b n j)
  u l := x1 (ix3 b n l)
  y l := x2 (ix3 b n l)
  mixed l := x3 (ix3 b n l)
  za j := x4 (ix3 b n j)
  zb j := x5 (ix3 b n j)
  p k := x6 (ix4 0 b n k)

/-- The result: every token, the sequences one after another. -/
def result (x0 : Vec Ideal ⟨3, ![16, 2048, 1024]⟩ .f32) (x1 : Vec Ideal ⟨3, ![16, 2048, 512]⟩ .bf16) (x2 : Vec Ideal ⟨3, ![16, 2048, 512]⟩ .bf16) (x3 : Vec Ideal ⟨3, ![16, 2048, 512]⟩ .bf16) (x4 : Vec Ideal ⟨3, ![16, 2048, 1024]⟩ .bf16) (x5 : Vec Ideal ⟨3, ![16, 2048, 1024]⟩ .bf16) (x6 : Vec Ideal ⟨4, ![1, 16, 2048, 256]⟩ .f32) (x7 : Vec Ideal ⟨2, ![1, 512]⟩ .f32) (x8 : Vec Ideal ⟨3, ![1, 512, 2048]⟩ .f32) (x9 : Vec Ideal ⟨3, ![1, 512, 1024]⟩ .f32) (x10 : Vec Ideal ⟨3, ![1, 1024, 1024]⟩ .f32) (x11 : Vec Ideal ⟨2, ![1, 1024]⟩ .f32) (x12 : Vec Ideal ⟨3, ![1, 1024, 4096]⟩ .f32) (x13 : Vec Ideal ⟨3, ![1, 4096, 1024]⟩ .f32) (x14 : Vec Ideal ⟨2, ![1, 1024]⟩ .f32) (x15 : Vec Ideal ⟨3, ![1, 1024, 1024]⟩ .f32) (x16 : Vec Ideal ⟨3, ![1, 256, 1024]⟩ .f32) (x17 : Vec Ideal ⟨1, ![1024]⟩ .f32) : Vec Ideal ⟨2, ![32768, 1024]⟩ .f32 := fun i =>
  token (weights x7 x8 x9 x10 x11 x12 x13 x14 x15 x16 x17) (rows x0 x1 x2 x3 x4 x5 x6 ⟨(i 0).val / 2048, by have h : (i 0).val < 32768 := (i 0).isLt; omega⟩ ⟨(i 0).val % 2048, by omega⟩) (i 1)

end Cert.Merge

end
-- ==== Proof.Merge.Take.lean ====
module

public import proofs.«01_k».proof.Proof.Gen.Kernel2Ideal.Value
public import Idealize.ShloMosaic.Lib.Pointwise
public import Idealize.ShloMosaic.Lib.ValueIdxCore

@[expose] public section

set_option maxRecDepth 16384

/-! # The reordering of the mixer's channels

The host takes the rows of the mixer's map, and the mixer's channels, in one order, read from a table. -/

noncomputable section

namespace Cert.Merge

open Cert.Kernel2Ideal Cert.Kernel2Ideal.Gen Idealize.ShloMosaic Idealize.ShloMosaic.TcCoe Idealize.SL.Sem

/-- The channel in place `l`: first the groups' channels below 64, then the rest of each group, 64 and then downwards. -/
def order (l : Fin 512) : Fin 512 :=
  if _h : l.val < 256 then ⟨l.val / 64 * 128 + l.val % 64, by omega⟩
  else ⟨(l.val - 256) / 64 * 128 + if l.val % 64 = 0 then 64 else 128 - l.val % 64, by split_ifs <;> omega⟩

/-- The place of a channel. -/
def place (k : Fin 512) : Fin 512 :=
  if _h : k.val % 128 < 64 then ⟨k.val / 128 * 64 + k.val % 128, by omega⟩
  else ⟨256 + k.val / 128 * 64 + (128 - k.val % 128) % 64, by omega⟩

/-- Each channel's place is one place. -/
theorem place_order : ∀ l, place (order l) = l := by decide +kernel

/-- No channel is taken twice, so each is taken once. -/
theorem order_bijective : Function.Bijective order :=
  Finite.injective_iff_bijective.mp (Function.LeftInverse.injective place_order)

/-- The index the take computes from an entry of the table: a negative one counts from the end. -/
abbrev entry (l : Fin 512) : BitVec 32 :=
  Scalar.select (IntOp.cmpi .slt (lit0 (S512.rowMajor (ix1 l))) 0#32) (IntOp.addi (lit0 (S512.rowMajor (ix1 l))) 512#32) (lit0 (S512.rowMajor (ix1 l)))

/-- The table's entries are the order, -/
theorem entry_eq (l : Fin 512) : entry l = BitVec.ofNat 32 (order l).val := by
  revert l
  decide +kernel

/-- each within bounds, -/
theorem entry_mem (l : Fin 512) : IntOp.andi (IntOp.cmpi .sge (entry l) 0#32) (IntOp.cmpi .sle (entry l) 511#32) = 1#1 := by
  revert l
  decide +kernel

/-- and read as a number it is the channel. -/
theorem entry_nat (l : Fin 512) : min (entry l).toInt.toNat 511 = (order l).val := by
  revert l
  decide +kernel

/-- A take of rows reads its operand's row at the index, clamped. -/
theorem rows_apply (x : S512x1024.Idx → EReal) (idx : IVec S512x1 32) (l : Fin 512) (j : Fin 1024) :
    Host.gather gather_S512x1024_S512x1_S512x1024_1_0_n_n_0_1_11024 x idx (ix2 l j) = x (ix2 ⟨min (idx (ix2 l 0)).toInt.toNat 511, by omega⟩ j) := by
  unfold Host.gather
  refine congrArg x (funext fun a => Fin.ext ?_)
  match a with
  | ⟨0, _⟩ =>
    show min (idx _).toInt.toNat 511 + 0 + 0 = min (idx (ix2 l 0)).toInt.toNat 511 + 0 + 0
    refine congrArg (fun k => min (idx k).toInt.toNat 511 + 0 + 0) (funext fun b => ?_)
    match b with
    | ⟨0, _⟩ => rfl
    | ⟨1, _⟩ => rfl
  | ⟨1, _⟩ =>
    show 0 + 0 + j.val = j.val
    omega

/-- A take of channels does so along the last axis. -/
theorem channels_apply (x : S16x2048x512.Idx → EReal) (idx : IVec S512x1 32) (b : Fin 16) (n : Fin 2048) (l : Fin 512) :
    Host.gather gather_S16x2048x512_S512x1_S16x2048x512_01_2_n_n_2_1_1620481 x idx (ix3 b n l) = x (ix3 b n ⟨min (idx (ix2 l 0)).toInt.toNat 511, by omega⟩) := by
  unfold Host.gather
  refine congrArg x (funext fun a => Fin.ext ?_)
  match a with
  | ⟨0, _⟩ =>
    show 0 + 0 + b.val = b.val
    omega
  | ⟨1, _⟩ =>
    show 0 + 0 + n.val = n.val
    omega
  | ⟨2, _⟩ =>
    show min (idx _).toInt.toNat 511 + 0 + 0 = min (idx (ix2 l 0)).toInt.toNat 511 + 0 + 0
    refine congrArg (fun k => min (idx k).toInt.toNat 511 + 0 + 0) (funext fun b => ?_)
    match b with
    | ⟨0, _⟩ => rfl
    | ⟨1, _⟩ => rfl

end Cert.Merge

end
-- ==== Proof.Merge.BlockToken.lean ====
module

public import proofs.«01_k».proof.Proof.Merge.Block
public import proofs.«01_k».proof.Proof.Merge.Layer
public import proofs.«01_k».proof.Proof.Merge.Take

@[expose] public section

set_option maxRecDepth 16384

/-! # A block's row, from the arrays the program is given -/

noncomputable section

namespace Cert.Merge

open Cert.Kernel2Ideal Cert.Kernel2Ideal.Gen Idealize.ShloMosaic Idealize.ShloMosaic.TcCoe Idealize.SL.Sem

/-- A block's row is the layer's token, where the block holds the token's rows and the weights, with the mixer's channels and the rows of its map in the order. -/
theorem block_token (i : grid0.Coords) (x0 : Vec Ideal S512x1024 .f32) (x1 : Vec Ideal S512x512 .bf16) (x2 : Vec Ideal S512x512 .bf16) (x3 : Vec Ideal S512x512 .bf16) (x4 : Vec Ideal S512x512 .bf16) (x5 : Vec Ideal S512x1024 .bf16) (x6 : Vec Ideal S512x1024 .bf16) (x7 : Vec Ideal S512x256 .f32) (x8 : Vec Ideal S1x512 .f32) (x9 : Vec Ideal S512x2048 .bf16) (x10 : Vec Ideal S512x1024 .bf16) (x11 : Vec Ideal S1024x1024 .bf16) (x12 : Vec Ideal S1x1024 .f32) (x13 : Vec Ideal S1024x4096 .bf16) (x14 : Vec Ideal S4096x1024 .bf16) (x15 : Vec Ideal S1x1024 .f32) (x16 : Vec Ideal S1024x1024 .bf16) (x17 : Vec Ideal S256x1024 .bf16) (x18 : Vec Ideal S1x1024 .f32)
    (a0 : Vec Ideal ⟨3, ![16, 2048, 1024]⟩ .f32) (a1 : Vec Ideal ⟨3, ![16, 2048, 512]⟩ .bf16) (a2 : Vec Ideal ⟨3, ![16, 2048, 512]⟩ .bf16) (a3 : Vec Ideal ⟨3, ![16, 2048, 512]⟩ .bf16) (a4 : Vec Ideal ⟨3, ![16, 2048, 1024]⟩ .bf16) (a5 : Vec Ideal ⟨3, ![16, 2048, 1024]⟩ .bf16) (a6 : Vec Ideal ⟨4, ![1, 16, 2048, 256]⟩ .f32) (a7 : Vec Ideal ⟨2, ![1, 512]⟩ .f32) (a8 : Vec Ideal ⟨3, ![1, 512, 2048]⟩ .f32) (a9 : Vec Ideal ⟨3, ![1, 512, 1024]⟩ .f32) (a10 : Vec Ideal ⟨3, ![1, 1024, 1024]⟩ .f32) (a11 : Vec Ideal ⟨2, ![1, 1024]⟩ .f32) (a12 : Vec Ideal ⟨3, ![1, 1024, 4096]⟩ .f32) (a13 : Vec Ideal ⟨3, ![1, 4096, 1024]⟩ .f32) (a14 : Vec Ideal ⟨2, ![1, 1024]⟩ .f32) (a15 : Vec Ideal ⟨3, ![1, 1024, 1024]⟩ .f32) (a16 : Vec Ideal ⟨3, ![1, 256, 1024]⟩ .f32) (a17 : Vec Ideal ⟨1, ![1024]⟩ .f32)
    (b : Fin 16) (n : Fin 2048) (r : Fin 512) (j : Fin 1024)
    (h0 : ∀ j, x0 (ix2 r j) = a0 (ix3 b n j))
    (h1 : ∀ j, x1 (ix2 r j) = a1 (ix3 b n j))
    (h2 : ∀ j, x2 (ix2 r j) = a2 (ix3 b n j))
    (hm : ∀ l, (if (i 0).val < 32 then x3 (ix2 r l) else x4 (ix2 r l)) = a3 (ix3 b n (order l)))
    (h5 : ∀ j, x5 (ix2 r j) = a4 (ix3 b n j))
    (h6 : ∀ j, x6 (ix2 r j) = a5 (ix3 b n j))
    (h7 : ∀ j, x7 (ix2 r j) = a6 (ix4 0 b n j))
    (h8 : ∀ j, x8 (ix2 0 j) = a7 (ix2 0 j))
    (h9 : ∀ l j, x9 (ix2 l j) = a8 (ix3 0 l j))
    (h10 : ∀ l j, x10 (ix2 l j) = a9 (ix3 0 (order l) j))
    (h11 : ∀ l j, x11 (ix2 l j) = a10 (ix3 0 l j))
    (h12 : ∀ j, x12 (ix2 0 j) = a11 (ix2 0 j))
    (h13 : ∀ l j, x13 (ix2 l j) = a12 (ix3 0 l j))
    (h14 : ∀ l j, x14 (ix2 l j) = a13 (ix3 0 l j))
    (h15 : ∀ j, x15 (ix2 0 j) = a14 (ix2 0 j))
    (h16 : ∀ l j, x16 (ix2 l j) = a15 (ix3 0 l j))
    (h17 : ∀ l j, x17 (ix2 l j) = a16 (ix3 0 l j))
    (h18 : ∀ j, x18 (ix2 0 j) = a17 (ix1 j)) :
    out0_19 i x0 x1 x2 x3 x4 x5 x6 x7 x8 x9 x10 x11 x12 x13 x14 x15 x16 x17 x18 (ix2 r j) = token (weights a7 a8 a9 a10 a11 a12 a13 a14 a15 a16 a17) (rows a0 a1 a2 a3 a4 a5 a6 b n) j := by
  rw [out_eq]
  refine congrFun (token_perm (weights a7 a8 a9 a10 a11 a12 a13 a14 a15 a16 a17) _ (rows a0 a1 a2 a3 a4 a5 a6 b n) _ order order_bijective ?_ ?_) j
  · unfold weightsOf weights
    simp only [h8, h9, h10, h11, h12, h13, h14, h15, h16, h17, h18]
  · unfold rowOf rows
    simp only [h0, h1, h2, hm, h5, h6, h7]

end Cert.Merge

end
-- ==== Proof.Merge.Launch.lean ====
module

public import proofs.«01_k».proof.Proof.Gen.Kernel2Ideal.Value
public import proofs.«01_k».proof.Proof.Merge.Take
public import Idealize.ShloMosaic.Lib.Pointwise
public import Idealize.ShloMosaic.Lib.StableHlo.ReadAt

@[expose] public section

set_option maxRecDepth 16384

/-! # The arrays the kernel is launched with, read from the program's arguments -/

noncomputable section

namespace Cert.Merge

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The kernel is given the residual's rows. -/
theorem launch_x (R : Fin 32768) (j : Fin 1024) :
    (V m c main_v25 : Vec Ideal S32768x1024 .f32) (ix2 R j) = m ((c.tc : Thread nD τ).loc main_arg0) (ix3 ⟨R.val / 2048, by omega⟩ ⟨R.val % 2048, by omega⟩ j) := by
  dsimp only [V, hostOps0, hostOps0_1, hostOps0_2, hostOps0_3, hostOps0_4, List.flatten_cons, List.flatten_nil, List.append_nil, List.cons_append, List.nil_append]
  after_results
  pointwise

/-- The kernel is given the scan's inputs. -/
theorem launch_u (R : Fin 32768) (j : Fin 512) :
    (V m c main_v26 : Vec Ideal S32768x512 .bf16) (ix2 R j) = m ((c.tc : Thread nD τ).loc main_arg1) (ix3 ⟨R.val / 2048, by omega⟩ ⟨R.val % 2048, by omega⟩ j) := by
  dsimp only [V, hostOps0, hostOps0_1, hostOps0_2, hostOps0_3, hostOps0_4, List.flatten_cons, List.flatten_nil, List.append_nil, List.cons_append, List.nil_append]
  after_results
  pointwise

/-- The kernel is given the scan's outputs. -/
theorem launch_y (R : Fin 32768) (j : Fin 512) :
    (V m c main_v27 : Vec Ideal S32768x512 .bf16) (ix2 R j) = m ((c.tc : Thread nD τ).loc main_arg2) (ix3 ⟨R.val / 2048, by omega⟩ ⟨R.val % 2048, by omega⟩ j) := by
  dsimp only [V, hostOps0, hostOps0_1, hostOps0_2, hostOps0_3, hostOps0_4, List.flatten_cons, List.flatten_nil, List.append_nil, List.cons_append, List.nil_append]
  after_results
  pointwise

/-- The kernel is given the first gate. -/
theorem launch_za (R : Fin 32768) (j : Fin 1024) :
    (V m c main_v30 : Vec Ideal S32768x1024 .bf16) (ix2 R j) = m ((c.tc : Thread nD τ).loc main_arg4) (ix3 ⟨R.val / 2048, by omega⟩ ⟨R.val % 2048, by omega⟩ j) := by
  dsimp only [V, hostOps0, hostOps0_1, hostOps0_2, hostOps0_3, hostOps0_4, List.flatten_cons, List.flatten_nil, List.append_nil, List.cons_append, List.nil_append]
  after_results
  pointwise

/-- The kernel is given the second gate. -/
theorem launch_zb (R : Fin 32768) (j : Fin 1024) :
    (V m c main_v31 : Vec Ideal S32768x1024 .bf16) (ix2 R j) = m ((c.tc : Thread nD τ).loc main_arg5) (ix3 ⟨R.val / 2048, by omega⟩ ⟨R.val % 2048, by omega⟩ j) := by
  dsimp only [V, hostOps0, hostOps0_1, hostOps0_2, hostOps0_3, hostOps0_4, List.flatten_cons, List.flatten_nil, List.append_nil, List.cons_append, List.nil_append]
  after_results
  pointwise

/-- The kernel is given the layer embedding. -/
theorem launch_p (R : Fin 32768) (j : Fin 256) :
    (V m c main_v33 : Vec Ideal S32768x256 .f32) (ix2 R j) = m ((c.tc : Thread nD τ).loc main_arg6) (ix4 0 ⟨R.val / 2048, by omega⟩ ⟨R.val % 2048, by omega⟩ j) := by
  dsimp only [V, hostOps0, hostOps0_1, hostOps0_2, hostOps0_3, hostOps0_4, List.flatten_cons, List.flatten_nil, List.append_nil, List.cons_append, List.nil_append]
  after_results
  pointwise

/-- The kernel is given the skip weights. -/
theorem launch_skip (j : Fin 512) :
    (V m c main_v7 : Vec Ideal S1x512 .f32) (ix2 0 j) = m ((c.tc : Thread nD τ).loc main_arg7) (ix2 0 j) := by
  dsimp only [V, hostOps0, hostOps0_1, hostOps0_2, hostOps0_3, hostOps0_4, List.flatten_cons, List.flatten_nil, List.append_nil, List.cons_append, List.nil_append]
  after_results
  pointwise

/-- The kernel is given the gated unit's weights. -/
theorem launch_glu (l : Fin 512) (j : Fin 2048) :
    (V m c main_v9 : Vec Ideal S512x2048 .bf16) (ix2 l j) = m ((c.tc : Thread nD τ).loc main_arg8) (ix3 0 l j) := by
  dsimp only [V, hostOps0, hostOps0_1, hostOps0_2, hostOps0_3, hostOps0_4, List.flatten_cons, List.flatten_nil, List.append_nil, List.cons_append, List.nil_append]
  after_results
  pointwise

/-- The kernel is given the output projection. -/
theorem launch_out (l : Fin 1024) (j : Fin 1024) :
    (V m c main_v11 : Vec Ideal S1024x1024 .bf16) (ix2 l j) = m ((c.tc : Thread nD τ).loc main_arg10) (ix3 0 l j) := by
  dsimp only [V, hostOps0, hostOps0_1, hostOps0_2, hostOps0_3, hostOps0_4, List.flatten_cons, List.flatten_nil, List.append_nil, List.cons_append, List.nil_append]
  after_results
  pointwise

/-- The kernel is given the feed-forward norm's gain. -/
theorem launch_gFfn (j : Fin 1024) :
    (V m c main_v13 : Vec Ideal S1x1024 .f32) (ix2 0 j) = m ((c.tc : Thread nD τ).loc main_arg11) (ix2 0 j) := by
  dsimp only [V, hostOps0, hostOps0_1, hostOps0_2, hostOps0_3, hostOps0_4, List.flatten_cons, List.flatten_nil, List.append_nil, List.cons_append, List.nil_append]
  after_results
  pointwise

/-- The kernel is given the upward projection. -/
theorem launch_up (l : Fin 1024) (j : Fin 4096) :
    (V m c main_v15 : Vec Ideal S1024x4096 .bf16) (ix2 l j) = m ((c.tc : Thread nD τ).loc main_arg12) (ix3 0 l j) := by
  dsimp only [V, hostOps0, hostOps0_1, hostOps0_2, hostOps0_3, hostOps0_4, List.flatten_cons, List.flatten_nil, List.append_nil, List.cons_append, List.nil_append]
  after_results
  pointwise

/-- The kernel is given the downward projection. -/
theorem launch_down (l : Fin 4096) (j : Fin 1024) :
    (V m c main_v17 : Vec Ideal S4096x1024 .bf16) (ix2 l j) = m ((c.tc : Thread nD τ).loc main_arg13) (ix3 0 l j) := by
  dsimp only [V, hostOps0, hostOps0_1, hostOps0_2, hostOps0_3, hostOps0_4, List.flatten_cons, List.flatten_nil, List.append_nil, List.cons_append, List.nil_append]
  after_results
  pointwise

/-- The kernel is given the embedding norm's gain. -/
theorem launch_gPle (j : Fin 1024) :
    (V m c main_v19 : Vec Ideal S1x1024 .f32) (ix2 0 j) = m ((c.tc : Thread nD τ).loc main_arg14) (ix2 0 j) := by
  dsimp only [V, hostOps0, hostOps0_1, hostOps0_2, hostOps0_3, hostOps0_4, List.flatten_cons, List.flatten_nil, List.append_nil, List.cons_append, List.nil_append]
  after_results
  pointwise

/-- The kernel is given the embedding's gate. -/
theorem launch_gate (l : Fin 1024) (j : Fin 1024) :
    (V m c main_v21 : Vec Ideal S1024x1024 .bf16) (ix2 l j) = m ((c.tc : Thread nD τ).loc main_arg15) (ix3 0 l j) := by
  dsimp only [V, hostOps0, hostOps0_1, hostOps0_2, hostOps0_3, hostOps0_4, List.flatten_cons, List.flatten_nil, List.append_nil, List.cons_append, List.nil_append]
  after_results
  pointwise

/-- The kernel is given the embedding's projection. -/
theorem launch_ple (l : Fin 256) (j : Fin 1024) :
    (V m c main_v23 : Vec Ideal S256x1024 .bf16) (ix2 l j) = m ((c.tc : Thread nD τ).loc main_arg16) (ix3 0 l j) := by
  dsimp only [V, hostOps0, hostOps0_1, hostOps0_2, hostOps0_3, hostOps0_4, List.flatten_cons, List.flatten_nil, List.append_nil, List.cons_append, List.nil_append]
  after_results
  pointwise

/-- The kernel is given the final norm's gain. -/
theorem launch_gFinal (j : Fin 1024) :
    (V m c main_v24 : Vec Ideal S1x1024 .f32) (ix2 0 j) = m ((c.tc : Thread nD τ).loc main_arg17) (ix1 j) := by
  dsimp only [V, hostOps0, hostOps0_1, hostOps0_2, hostOps0_3, hostOps0_4, List.flatten_cons, List.flatten_nil, List.append_nil, List.cons_append, List.nil_append]
  after_results
  pointwise

/-- A choice that the index is within bounds, folded over its one coordinate. -/
theorem within {α : Type} (l : Fin 512) (a b : α) :
    Scalar.select (Finset.fold IntOp.andi (1#1) (fun _ : Fin 1 => IntOp.andi (IntOp.cmpi .sge (entry l) 0#32) (IntOp.cmpi .sle (entry l) 511#32)) Finset.univ) a b = a := by
  rw [entry_mem]
  rfl

/-- The kernel is given the mixer's map, its rows in the order, -/
theorem launch_fnet (l : Fin 512) (j : Fin 1024) :
    (V m c main_v2 : Vec Ideal S512x1024 .bf16) (ix2 l j) = m ((c.tc : Thread nD τ).loc main_arg9) (ix3 0 (order l) j) := by
  dsimp only [V, hostOps0, hostOps0_1, hostOps0_2, hostOps0_3, hostOps0_4, List.flatten_cons, List.flatten_nil, List.append_nil, List.cons_append, List.nil_append]
  after_reads_at
  refine (within l _ _).trans ((rows_apply _ _ l j).trans ?_)
  refine congrArg (fun k => m (c, Proc.tc.devRef main_arg9) (ix3 0 k j)) (Fin.ext ?_)
  exact entry_nat l

/-- and the first eight sequences of the mixer's outputs, their channels in the order, -/
theorem launch_mixed0 (R : Fin 16384) (l : Fin 512) :
    (V m c main_v28 : Vec Ideal S16384x512 .bf16) (ix2 R l) = m ((c.tc : Thread nD τ).loc main_arg3) (ix3 ⟨R.val / 2048, by omega⟩ ⟨R.val % 2048, by omega⟩ (order l)) := by
  dsimp only [V, hostOps0, hostOps0_1, hostOps0_2, hostOps0_3, hostOps0_4, List.flatten_cons, List.flatten_nil, List.append_nil, List.cons_append, List.nil_append]
  after_reads_at
  refine (within l _ _).trans ((channels_apply _ _ _ _ l).trans ?_)
  refine congrArg (fun k => m (c, Proc.tc.devRef main_arg3) (ix3 ⟨R.val / 2048, by omega⟩ ⟨R.val % 2048, by omega⟩ k)) (Fin.ext ?_)
  exact entry_nat l

/-- and the second eight sequences of the mixer's outputs, their channels in the order. -/
theorem launch_mixed1 (R : Fin 16384) (l : Fin 512) :
    (V m c main_v29 : Vec Ideal S16384x512 .bf16) (ix2 R l) = m ((c.tc : Thread nD τ).loc main_arg3) (ix3 ⟨8 + R.val / 2048, by omega⟩ ⟨R.val % 2048, by omega⟩ (order l)) := by
  dsimp only [V, hostOps0, hostOps0_1, hostOps0_2, hostOps0_3, hostOps0_4, List.flatten_cons, List.flatten_nil, List.append_nil, List.cons_append, List.nil_append]
  after_reads_at
  refine (within l _ _).trans ((channels_apply _ _ _ _ l).trans ?_)
  refine congrArg (fun k => m (c, Proc.tc.devRef main_arg3) (ix3 ⟨8 + R.val / 2048, by omega⟩ ⟨R.val % 2048, by omega⟩ k)) (Fin.ext ?_)
  exact entry_nat l

end Cert.Merge

end
-- ==== Proof.Merge.Windows.lean ====
module

public import proofs.«01_k».proof.Proof.Merge.BlockToken
public import proofs.«01_k».proof.Proof.Merge.Launch
public import Idealize.ShloMosaic.Lib.Pipeline.ValueKit

@[expose] public section

set_option maxRecDepth 16384

/-! # What each window shows of its array -/

noncomputable section

namespace Cert.Merge

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The block each activation's window shows at a grid point: the grid point's own, but for the two halves of the mixer's outputs, -/
theorem index_rows : ∀ t : Fin cfg0.N, win0_0.index t = ![t.val, 0] ∧ win0_1.index t = ![t.val, 0] ∧ win0_2.index t = ![t.val, 0]
    ∧ win0_3.index t = ![min t.val 31, 0] ∧ win0_4.index t = ![t.val - 32, 0] ∧ win0_5.index t = ![t.val, 0] ∧ win0_6.index t = ![t.val, 0]
    ∧ win0_7.index t = ![t.val, 0] ∧ win0_19.index t = ![t.val, 0] :=
  (by decide +kernel : ∀ t : Fin grid0.N, _)

/-- and each weight's window shows it whole. -/
theorem index_weights : ∀ t : Fin cfg0.N, win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0]
    ∧ win0_15.index t = ![0, 0] ∧ win0_16.index t = ![0, 0] ∧ win0_17.index t = ![0, 0]
    ∧ win0_18.index t = ![0, 0] :=
  (by decide +kernel : ∀ t : Fin grid0.N, _)

theorem lt_grid (t : Fin cfg0.N) : t.val < 64 := t.isLt

/-- A grid point's coordinate is its number. -/
theorem coord_eq : ∀ t : Fin cfg0.N, (grid0.coords t 0).val = t.val :=
  (by decide +kernel : ∀ t : Fin grid0.N, _)

/-! ## The rows a block holds -/

theorem read_x (t : Fin cfg0.N) (r : Fin 512) (j : Fin 1024) :
    (iblk m c 0 t : Vec Ideal S512x1024 .f32) (ix2 r j) = (V m c main_v25 : Vec Ideal S32768x1024 .f32) (ix2 ⟨512 * t.val + r.val, by have := lt_grid t; omega⟩ j) := by
  obtain ⟨e, -⟩ := index_rows t
  blk_ext [iblk, e]

theorem read_u (t : Fin cfg0.N) (r : Fin 512) (j : Fin 512) :
    (iblk m c 1 t : Vec Ideal S512x512 .bf16) (ix2 r j) = (V m c main_v26 : Vec Ideal S32768x512 .bf16) (ix2 ⟨512 * t.val + r.val, by have := lt_grid t; omega⟩ j) := by
  obtain ⟨_, e, -⟩ := index_rows t
  blk_ext [iblk, e]

theorem read_y (t : Fin cfg0.N) (r : Fin 512) (j : Fin 512) :
    (iblk m c 2 t : Vec Ideal S512x512 .bf16) (ix2 r j) = (V m c main_v27 : Vec Ideal S32768x512 .bf16) (ix2 ⟨512 * t.val + r.val, by have := lt_grid t; omega⟩ j) := by
  obtain ⟨_, _, e, -⟩ := index_rows t
  blk_ext [iblk, e]

theorem read_mixed0 (t : Fin cfg0.N) (ht : t.val < 32) (r : Fin 512) (j : Fin 512) :
    (iblk m c 3 t : Vec Ideal S512x512 .bf16) (ix2 r j) = (V m c main_v28 : Vec Ideal S16384x512 .bf16) (ix2 ⟨512 * t.val + r.val, by omega⟩ j) := by
  obtain ⟨_, _, _, e, -⟩ := index_rows t
  rw [show min t.val 31 = t.val by omega] at e
  blk_ext [iblk, e]

theorem read_mixed1 (t : Fin cfg0.N) (ht : 32 ≤ t.val) (r : Fin 512) (j : Fin 512) :
    (iblk m c 4 t : Vec Ideal S512x512 .bf16) (ix2 r j) = (V m c main_v29 : Vec Ideal S16384x512 .bf16) (ix2 ⟨512 * (t.val - 32) + r.val, by have := lt_grid t; omega⟩ j) := by
  obtain ⟨_, _, _, _, e, -⟩ := index_rows t
  blk_ext [iblk, e]

theorem read_za (t : Fin cfg0.N) (r : Fin 512) (j : Fin 1024) :
    (iblk m c 5 t : Vec Ideal S512x1024 .bf16) (ix2 r j) = (V m c main_v30 : Vec Ideal S32768x1024 .bf16) (ix2 ⟨512 * t.val + r.val, by have := lt_grid t; omega⟩ j) := by
  obtain ⟨_, _, _, _, _, e, -⟩ := index_rows t
  blk_ext [iblk, e]

theorem read_zb (t : Fin cfg0.N) (r : Fin 512) (j : Fin 1024) :
    (iblk m c 6 t : Vec Ideal S512x1024 .bf16) (ix2 r j) = (V m c main_v31 : Vec Ideal S32768x1024 .bf16) (ix2 ⟨512 * t.val + r.val, by have := lt_grid t; omega⟩ j) := by
  obtain ⟨_, _, _, _, _, _, e, -⟩ := index_rows t
  blk_ext [iblk, e]

theorem read_p (t : Fin cfg0.N) (r : Fin 512) (j : Fin 256) :
    (iblk m c 7 t : Vec Ideal S512x256 .f32) (ix2 r j) = (V m c main_v33 : Vec Ideal S32768x256 .f32) (ix2 ⟨512 * t.val + r.val, by have := lt_grid t; omega⟩ j) := by
  obtain ⟨_, _, _, _, _, _, _, e, -⟩ := index_rows t
  blk_ext [iblk, e]

/-! ## The weights, whole -/

theorem read_skip (t : Fin cfg0.N) (j : Fin 512) :
    (iblk m c 8 t : Vec Ideal S1x512 .f32) (ix2 0 j) = (V m c main_v7 : Vec Ideal S1x512 .f32) (ix2 0 j) := by
  obtain ⟨e, -⟩ := index_weights t
  blk_ext [iblk, e]

theorem read_glu (t : Fin cfg0.N) (l : Fin 512) (j : Fin 2048) :
    (iblk m c 9 t : Vec Ideal S512x2048 .bf16) (ix2 l j) = (V m c main_v9 : Vec Ideal S512x2048 .bf16) (ix2 l j) := by
  obtain ⟨_, e, -⟩ := index_weights t
  blk_ext [iblk, e]

theorem read_fnet (t : Fin cfg0.N) (l : Fin 512) (j : Fin 1024) :
    (iblk m c 10 t : Vec Ideal S512x1024 .bf16) (ix2 l j) = (V m c main_v2 : Vec Ideal S512x1024 .bf16) (ix2 l j) := by
  obtain ⟨_, _, e, -⟩ := index_weights t
  blk_ext [iblk, e]

theorem read_out (t : Fin cfg0.N) (l : Fin 1024) (j : Fin 1024) :
    (iblk m c 11 t : Vec Ideal S1024x1024 .bf16) (ix2 l j) = (V m c main_v11 : Vec Ideal S1024x1024 .bf16) (ix2 l j) := by
  obtain ⟨_, _, _, e, -⟩ := index_weights t
  blk_ext [iblk, e]

theorem read_gFfn (t : Fin cfg0.N) (j : Fin 1024) :
    (iblk m c 12 t : Vec Ideal S1x1024 .f32) (ix2 0 j) = (V m c main_v13 : Vec Ideal S1x1024 .f32) (ix2 0 j) := by
  obtain ⟨_, _, _, _, e, -⟩ := index_weights t
  blk_ext [iblk, e]

theorem read_up (t : Fin cfg0.N) (l : Fin 1024) (j : Fin 4096) :
    (iblk m c 13 t : Vec Ideal S1024x4096 .bf16) (ix2 l j) = (V m c main_v15 : Vec Ideal S1024x4096 .bf16) (ix2 l j) := by
  obtain ⟨_, _, _, _, _, e, -⟩ := index_weights t
  blk_ext [iblk, e]

theorem read_down (t : Fin cfg0.N) (l : Fin 4096) (j : Fin 1024) :
    (iblk m c 14 t : Vec Ideal S4096x1024 .bf16) (ix2 l j) = (V m c main_v17 : Vec Ideal S4096x1024 .bf16) (ix2 l j) := by
  obtain ⟨_, _, _, _, _, _, e, -⟩ := index_weights t
  blk_ext [iblk, e]

theorem read_gPle (t : Fin cfg0.N) (j : Fin 1024) :
    (iblk m c 15 t : Vec Ideal S1x1024 .f32) (ix2 0 j) = (V m c main_v19 : Vec Ideal S1x1024 .f32) (ix2 0 j) := by
  obtain ⟨_, _, _, _, _, _, _, e, -⟩ := index_weights t
  blk_ext [iblk, e]

theorem read_gate (t : Fin cfg0.N) (l : Fin 1024) (j : Fin 1024) :
    (iblk m c 16 t : Vec Ideal S1024x1024 .bf16) (ix2 l j) = (V m c main_v21 : Vec Ideal S1024x1024 .bf16) (ix2 l j) := by
  obtain ⟨_, _, _, _, _, _, _, _, e, -⟩ := index_weights t
  blk_ext [iblk, e]

theorem read_ple (t : Fin cfg0.N) (l : Fin 256) (j : Fin 1024) :
    (iblk m c 17 t : Vec Ideal S256x1024 .bf16) (ix2 l j) = (V m c main_v23 : Vec Ideal S256x1024 .bf16) (ix2 l j) := by
  obtain ⟨_, _, _, _, _, _, _, _, _, e, -⟩ := index_weights t
  blk_ext [iblk, e]

theorem read_gFinal (t : Fin cfg0.N) (j : Fin 1024) :
    (iblk m c 18 t : Vec Ideal S1x1024 .f32) (ix2 0 j) = (V m c main_v24 : Vec Ideal S1x1024 .f32) (ix2 0 j) := by
  obtain ⟨_, _, _, _, _, _, _, _, _, _, e⟩ := index_weights t
  blk_ext [iblk, e]

/-- The mixer's row, from the half that holds it. -/
theorem read_mixed (t : Fin cfg0.N) (r l : Fin 512) :
    (if (grid0.coords t 0).val < 32 then (iblk m c 3 t : Vec Ideal S512x512 .bf16) (ix2 r l) else (iblk m c 4 t : Vec Ideal S512x512 .bf16) (ix2 r l))
      = (m ((c.tc : Thread nD τ).loc main_arg3)) (ix3 ⟨(512 * t.val + r.val) / 2048, by have := lt_grid t; omega⟩ ⟨(512 * t.val + r.val) % 2048, by omega⟩ (order l)) := by
  have hlt := lt_grid t
  rw [coord_eq]
  split_ifs with ht
  · exact (read_mixed0 m c t ht r l).trans (launch_mixed0 m c _ l)
  · refine (read_mixed1 m c t (by omega) r l).trans ((launch_mixed1 m c _ l).trans ?_)
    refine congrArg₂ (fun b n => (m ((c.tc : Thread nD τ).loc main_arg3)) (ix3 b n (order l))) (Fin.ext ?_) (Fin.ext ?_)
    · show 8 + (512 * (t.val - 32) + r.val) / 2048 = (512 * t.val + r.val) / 2048
      omega
    · show (512 * (t.val - 32) + r.val) % 2048 = (512 * t.val + r.val) % 2048
      omega

end Cert.Merge

end
-- ==== Proof.Merge.Array.lean ====
module

public import proofs.«01_k».proof.Proof.Merge.Windows
public import Idealize.ShloMosaic.Lib.Pipeline.ValueKit

@[expose] public section

set_option maxRecDepth 16384

/-! # The result array, block by block -/

noncomputable section

namespace Cert.Merge

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Where a block's element lies in the result. -/
theorem place_block (t : Fin cfg0.N) (r : Fin 512) (j : Fin 1024) :
    (((cfg0.win 19).blk t).view.emb (ix2 r j) : S32768x1024.Idx) = ix2 ⟨512 * t.val + r.val, by have := lt_grid t; omega⟩ j := by
  obtain ⟨_, _, _, _, _, _, _, _, e⟩ := index_rows t
  funext a
  refine Fin.ext ?_
  match a with
  | ⟨0, _⟩ =>
    show _ = 512 * t.val + r.val
    blk_simp [e]
    omega
  | ⟨1, _⟩ =>
    show _ = j.val
    blk_simp [e]

/-- What a grid point leaves in the output block: the result's rows there. -/
theorem block_eq (t : Fin cfg0.N) (r : Fin 512) (j : Fin 1024) :
    out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix2 r j)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (ix2 ⟨512 * t.val + r.val, by have := lt_grid t; omega⟩ j) :=
  block_token (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
    ⟨(512 * t.val + r.val) / 2048, by have := lt_grid t; omega⟩ ⟨(512 * t.val + r.val) % 2048, by omega⟩ r j
    (fun j => (read_x m c t r j).trans (launch_x m c _ j))
    (fun j => (read_u m c t r j).trans (launch_u m c _ j))
    (fun j => (read_y m c t r j).trans (launch_y m c _ j))
    (read_mixed m c t r)
    (fun j => (read_za m c t r j).trans (launch_za m c _ j))
    (fun j => (read_zb m c t r j).trans (launch_zb m c _ j))
    (fun j => (read_p m c t r j).trans (launch_p m c _ j))
    (fun j => (read_skip m c t j).trans (launch_skip m c j))
    (fun l j => (read_glu m c t l j).trans (launch_glu m c l j))
    (fun l j => (read_fnet m c t l j).trans (launch_fnet m c l j))
    (fun l j => (read_out m c t l j).trans (launch_out m c l j))
    (fun j => (read_gFfn m c t j).trans (launch_gFfn m c j))
    (fun l j => (read_up m c t l j).trans (launch_up m c l j))
    (fun l j => (read_down m c t l j).trans (launch_down m c l j))
    (fun j => (read_gPle m c t j).trans (launch_gPle m c j))
    (fun l j => (read_gate m c t l j).trans (launch_gate m c l j))
    (fun l j => (read_ple m c t l j).trans (launch_ple m c l j))
    (fun j => (read_gFinal m c t j).trans (launch_gFinal m c j))

/-- The same at the element's place in the result. -/
theorem block_emb (t : Fin cfg0.N) (y : S512x1024.Idx) :
    out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (((cfg0.win 19).blk t).view.emb y) := by
  idx_vars y
  rw [place_block]
  exact block_eq m c t y0 y1

/-- An array that holds, block by block, what the grid points leave is the result array. -/
theorem array_of (Z : Vec Ideal S32768x1024 .f32)
    (h : ∀ (t : Fin cfg0.N) (y : S512x1024.Idx), out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y
      = Z (((cfg0.win 19).blk t).view.emb y)) :
    (dats m 0 c).arrAt 19 cfg0.N = Z := by
  refine (dats m 0 c).arrAt_eq_of_covers 19 Z (by decide +kernel) fun t hf y => ?_
  blk_simp
  rw [after0_19]
  exact h t y

/-- The result array is `result` of the arguments. -/
theorem array_eq : (dats m 0 c).arrAt 19 cfg0.N = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  array_of m c _ (block_emb m c)

end Cert.Merge

end
-- ==== Proof.Merge.Reference.lean ====
module

public import proofs.«01_k».proof.Proof.Gen.Reference2Ideal.Read
public import proofs.«01_k».proof.Proof.Merge.Layer

@[expose] public section

set_option maxRecDepth 16384

/-! # The reference computes the same -/

noncomputable section

namespace Cert.Merge

open Cert.Reference2Ideal Cert.Reference2Ideal.Gen Cert.Reference2Ideal.Read Idealize.ShloMosaic Idealize.ShloMosaic.TcCoe Idealize.SL.Sem

/-- The scan branch. -/
theorem ref_glu (x1 : Vec Ideal ⟨3, ![16, 2048, 512]⟩ .bf16) (x2 : Vec Ideal ⟨3, ![16, 2048, 512]⟩ .bf16) (x7 : Vec Ideal ⟨2, ![1, 512]⟩ .f32) (x8 : Vec Ideal ⟨3, ![1, 512, 2048]⟩ .f32) (b : Fin 16) (n : Fin 2048) (j : Fin 1024) :
    val_main_v30 (F := Ideal) x1 x2 x7 x8 (ix3 b n j) = glu (fun l => x1 (ix3 b n l)) (fun l => x2 (ix3 b n l)) (fun l => x7 (ix2 0 l)) (fun l j => x8 (ix3 0 l j)) j := by
  unfold
    val_main_v30 val_main_v29 val_main_v27 val_main_v25 val_main_v24 val_main_v23 val_main_v26 val_main_cst_3 val_main_v28 val_main_cst_4 val_main_v22
    val_main_v21 val_main_v20 val_main_v19 val_main_v18 val_main_v16 val_main_v14 val_main_v13 val_main_v11 val_main_v10 val_main_v8 val_main_v7
    val_main_v9 val_main_cst val_main_v12 val_main_cst_0 val_main_v15 val_main_cst_1 val_main_v17 val_main_cst_2 val_main_v6 val_main_v5 val_main_v2
    val_main_v4 val_main_v3 val_main_v1 val_main_v0
  pointwise
  rfl
/-- The residual after the branches. -/
theorem ref_merged (x0 : Vec Ideal ⟨3, ![16, 2048, 1024]⟩ .f32) (x1 : Vec Ideal ⟨3, ![16, 2048, 512]⟩ .bf16) (x2 : Vec Ideal ⟨3, ![16, 2048, 512]⟩ .bf16) (x3 : Vec Ideal ⟨3, ![16, 2048, 512]⟩ .bf16) (x4 : Vec Ideal ⟨3, ![16, 2048, 1024]⟩ .bf16) (x5 : Vec Ideal ⟨3, ![16, 2048, 1024]⟩ .bf16) (x7 : Vec Ideal ⟨2, ![1, 512]⟩ .f32) (x8 : Vec Ideal ⟨3, ![1, 512, 2048]⟩ .f32) (x9 : Vec Ideal ⟨3, ![1, 512, 1024]⟩ .f32) (x10 : Vec Ideal ⟨3, ![1, 1024, 1024]⟩ .f32) (b : Fin 16) (n : Fin 2048) (j : Fin 1024) :
    val_main_v53 (F := Ideal) x0 x1 x2 x3 x4 x5 x7 x8 x9 x10 (ix3 b n j) = merged (fun j => x0 (ix3 b n j)) (fun j => val_main_v30 (F := Ideal) x1 x2 x7 x8 (ix3 b n j)) (fun j => ∑ l : Fin 512, x3 (ix3 b n l) * x9 (ix3 0 l j)) (fun j => x4 (ix3 b n j)) (fun j => x5 (ix3 b n j)) (fun l j => x10 (ix3 0 l j)) j := by
  unfold
    val_main_v53 val_main_v52 val_main_v51 val_main_v50 val_main_v49 val_main_v33 val_main_v32 val_main_v31 val_main_v48 val_main_v46 val_main_v44
    val_main_v43 val_main_v42 val_main_v45 val_main_cst_7 val_main_v47 val_main_cst_8 val_main_v41 val_main_v40 val_main_v38 val_main_v36 val_main_v35
    val_main_v34 val_main_v37 val_main_cst_5 val_main_v39 val_main_cst_6
  generalize val_main_v30 x1 x2 x7 x8 = Z
  pointwise
  rfl
/-- The residual after the feed-forward part. -/
theorem ref_fed (x0 : Vec Ideal ⟨3, ![16, 2048, 1024]⟩ .f32) (x1 : Vec Ideal ⟨3, ![16, 2048, 512]⟩ .bf16) (x2 : Vec Ideal ⟨3, ![16, 2048, 512]⟩ .bf16) (x3 : Vec Ideal ⟨3, ![16, 2048, 512]⟩ .bf16) (x4 : Vec Ideal ⟨3, ![16, 2048, 1024]⟩ .bf16) (x5 : Vec Ideal ⟨3, ![16, 2048, 1024]⟩ .bf16) (x7 : Vec Ideal ⟨2, ![1, 512]⟩ .f32) (x8 : Vec Ideal ⟨3, ![1, 512, 2048]⟩ .f32) (x9 : Vec Ideal ⟨3, ![1, 512, 1024]⟩ .f32) (x10 : Vec Ideal ⟨3, ![1, 1024, 1024]⟩ .f32) (x11 : Vec Ideal ⟨2, ![1, 1024]⟩ .f32) (x12 : Vec Ideal ⟨3, ![1, 1024, 4096]⟩ .f32) (x13 : Vec Ideal ⟨3, ![1, 4096, 1024]⟩ .f32) (b : Fin 16) (n : Fin 2048) (j : Fin 1024) :
    val_main_v74 (F := Ideal) x0 x1 x2 x3 x4 x5 x7 x8 x9 x10 x11 x12 x13 (ix3 b n j) = fed (fun j => val_main_v53 (F := Ideal) x0 x1 x2 x3 x4 x5 x7 x8 x9 x10 (ix3 b n j)) (hidden (fun j => val_main_v53 (F := Ideal) x0 x1 x2 x3 x4 x5 x7 x8 x9 x10 (ix3 b n j)) (fun j => x11 (ix2 0 j)) (fun k q => x12 (ix3 0 k q))) (fun q j => x13 (ix3 0 q j)) j := by
  unfold
    val_main_v74 val_main_v73 val_main_v72 val_main_v71 val_main_v70 val_main_call0_v0 val_main_call0_cst val_main_v69 val_main_v68 val_main_v67
    val_main_v66 val_main_v65 val_main_v54 val_main_v64 val_main_v63 val_main_v62 val_main_v61 val_main_v60 val_main_cst_11 val_main_v59 val_main_v58
    val_main_cst_10 val_main_v57 val_main_v56 val_main_cst_9 val_main_v55
  generalize val_main_v53 x0 x1 x2 x3 x4 x5 x7 x8 x9 x10 = Z
  pointwise
  rfl
/-- The residual after the layer embedding. -/
theorem ref_embedded (x0 : Vec Ideal ⟨3, ![16, 2048, 1024]⟩ .f32) (x1 : Vec Ideal ⟨3, ![16, 2048, 512]⟩ .bf16) (x2 : Vec Ideal ⟨3, ![16, 2048, 512]⟩ .bf16) (x3 : Vec Ideal ⟨3, ![16, 2048, 512]⟩ .bf16) (x4 : Vec Ideal ⟨3, ![16, 2048, 1024]⟩ .bf16) (x5 : Vec Ideal ⟨3, ![16, 2048, 1024]⟩ .bf16) (x6 : Vec Ideal ⟨4, ![1, 16, 2048, 256]⟩ .f32) (x7 : Vec Ideal ⟨2, ![1, 512]⟩ .f32) (x8 : Vec Ideal ⟨3, ![1, 512, 2048]⟩ .f32) (x9 : Vec Ideal ⟨3, ![1, 512, 1024]⟩ .f32) (x10 : Vec Ideal ⟨3, ![1, 1024, 1024]⟩ .f32) (x11 : Vec Ideal ⟨2, ![1, 1024]⟩ .f32) (x12 : Vec Ideal ⟨3, ![1, 1024, 4096]⟩ .f32) (x13 : Vec Ideal ⟨3, ![1, 4096, 1024]⟩ .f32) (x14 : Vec Ideal ⟨2, ![1, 1024]⟩ .f32) (x15 : Vec Ideal ⟨3, ![1, 1024, 1024]⟩ .f32) (x16 : Vec Ideal ⟨3, ![1, 256, 1024]⟩ .f32) (b : Fin 16) (n : Fin 2048) (j : Fin 1024) :
    val_main_v101 (F := Ideal) x0 x1 x2 x3 x4 x5 x6 x7 x8 x9 x10 x11 x12 x13 x14 x15 x16 (ix3 b n j) = embedded (fun j => val_main_v74 (F := Ideal) x0 x1 x2 x3 x4 x5 x7 x8 x9 x10 x11 x12 x13 (ix3 b n j)) (fun j => x14 (ix2 0 j)) (fun k j => x15 (ix3 0 k j)) (fun k => x6 (ix4 0 b n k)) (fun k j => x16 (ix3 0 k j)) j := by
  unfold
    val_main_v101 val_main_v100 val_main_v99 val_main_v98 val_main_v97 val_main_v96 val_main_v94 val_main_v92 val_main_v91 val_main_v90 val_main_v89
    val_main_v88 val_main_v87 val_main_v86 val_main_v75 val_main_v85 val_main_v84 val_main_v83 val_main_v82 val_main_v81 val_main_cst_14 val_main_v80
    val_main_v79 val_main_cst_13 val_main_v78 val_main_v77 val_main_cst_12 val_main_v76 val_main_v93 val_main_cst_15 val_main_v95 val_main_cst_16
  generalize val_main_v74 x0 x1 x2 x3 x4 x5 x7 x8 x9 x10 x11 x12 x13 = Z
  pointwise
  rfl
/-- The final norm. -/
theorem ref_final (x0 : Vec Ideal ⟨3, ![16, 2048, 1024]⟩ .f32) (x1 : Vec Ideal ⟨3, ![16, 2048, 512]⟩ .bf16) (x2 : Vec Ideal ⟨3, ![16, 2048, 512]⟩ .bf16) (x3 : Vec Ideal ⟨3, ![16, 2048, 512]⟩ .bf16) (x4 : Vec Ideal ⟨3, ![16, 2048, 1024]⟩ .bf16) (x5 : Vec Ideal ⟨3, ![16, 2048, 1024]⟩ .bf16) (x6 : Vec Ideal ⟨4, ![1, 16, 2048, 256]⟩ .f32) (x7 : Vec Ideal ⟨2, ![1, 512]⟩ .f32) (x8 : Vec Ideal ⟨3, ![1, 512, 2048]⟩ .f32) (x9 : Vec Ideal ⟨3, ![1, 512, 1024]⟩ .f32) (x10 : Vec Ideal ⟨3, ![1, 1024, 1024]⟩ .f32) (x11 : Vec Ideal ⟨2, ![1, 1024]⟩ .f32) (x12 : Vec Ideal ⟨3, ![1, 1024, 4096]⟩ .f32) (x13 : Vec Ideal ⟨3, ![1, 4096, 1024]⟩ .f32) (x14 : Vec Ideal ⟨2, ![1, 1024]⟩ .f32) (x15 : Vec Ideal ⟨3, ![1, 1024, 1024]⟩ .f32) (x16 : Vec Ideal ⟨3, ![1, 256, 1024]⟩ .f32) (x17 : Vec Ideal ⟨1, ![1024]⟩ .f32) (R : Fin 32768) (j : Fin 1024) :
    val_main_v115 (F := Ideal) x0 x1 x2 x3 x4 x5 x6 x7 x8 x9 x10 x11 x12 x13 x14 x15 x16 x17 (ix2 R j) = norm (fun j => val_main_v101 (F := Ideal) x0 x1 x2 x3 x4 x5 x6 x7 x8 x9 x10 x11 x12 x13 x14 x15 x16 (ix3 ⟨R.val / 2048, by omega⟩ ⟨R.val % 2048, by omega⟩ j)) (fun j => x17 (ix1 j)) j := by
  unfold
    val_main_v115 val_main_v114 val_main_v113 val_main_v112 val_main_v111 val_main_v110 val_main_v109 val_main_v108 val_main_v107 val_main_cst_19
    val_main_v106 val_main_v105 val_main_cst_18 val_main_v104 val_main_v103 val_main_cst_17 val_main_v102
  generalize val_main_v101 x0 x1 x2 x3 x4 x5 x6 x7 x8 x9 x10 x11 x12 x13 x14 x15 x16 = Z
  pointwise
  rfl
/-- The reference's result. -/
theorem ref_result (x0 : Vec Ideal ⟨3, ![16, 2048, 1024]⟩ .f32) (x1 : Vec Ideal ⟨3, ![16, 2048, 512]⟩ .bf16) (x2 : Vec Ideal ⟨3, ![16, 2048, 512]⟩ .bf16) (x3 : Vec Ideal ⟨3, ![16, 2048, 512]⟩ .bf16) (x4 : Vec Ideal ⟨3, ![16, 2048, 1024]⟩ .bf16) (x5 : Vec Ideal ⟨3, ![16, 2048, 1024]⟩ .bf16) (x6 : Vec Ideal ⟨4, ![1, 16, 2048, 256]⟩ .f32) (x7 : Vec Ideal ⟨2, ![1, 512]⟩ .f32) (x8 : Vec Ideal ⟨3, ![1, 512, 2048]⟩ .f32) (x9 : Vec Ideal ⟨3, ![1, 512, 1024]⟩ .f32) (x10 : Vec Ideal ⟨3, ![1, 1024, 1024]⟩ .f32) (x11 : Vec Ideal ⟨2, ![1, 1024]⟩ .f32) (x12 : Vec Ideal ⟨3, ![1, 1024, 4096]⟩ .f32) (x13 : Vec Ideal ⟨3, ![1, 4096, 1024]⟩ .f32) (x14 : Vec Ideal ⟨2, ![1, 1024]⟩ .f32) (x15 : Vec Ideal ⟨3, ![1, 1024, 1024]⟩ .f32) (x16 : Vec Ideal ⟨3, ![1, 256, 1024]⟩ .f32) (x17 : Vec Ideal ⟨1, ![1024]⟩ .f32) : val_main_v115 (F := Ideal) x0 x1 x2 x3 x4 x5 x6 x7 x8 x9 x10 x11 x12 x13 x14 x15 x16 x17 = result x0 x1 x2 x3 x4 x5 x6 x7 x8 x9 x10 x11 x12 x13 x14 x15 x16 x17 := by
  funext i
  idx_vars i
  rw [ref_final]
  simp only [ref_embedded, ref_fed, ref_merged, ref_glu]
  rfl

end Cert.Merge

end
-- ==== Proof.Merge.Equation.lean ====
module

public import proofs.«01_k».proof.Defs
public import proofs.«01_k».proof.Proof.Merge.Array
public import proofs.«01_k».proof.Proof.Merge.Reference
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

/-! # The merge and the feed-forward part: the kernel's array is the reference's array -/

noncomputable section

namespace Cert.Merge

open Idealize.ShloMosaic Idealize.ShloMosaic.TcCoe Idealize.SL.Sem

/-- Over the extended reals, from the same arguments, the kernel and the reference end with the same array, whatever the arguments
    hold: every token merged, fed forward and normed as `result` states. -/
theorem algebraic :
    Cert.algebraic_Kernel2Ideal_Reference2Ideal (hKernel2Ideal := Cert.Kernel2Ideal.Gen.facts)
      (hReference2Ideal := Cert.Reference2Ideal.Gen.facts) := fun m ρ m' ρ' _ ha => by
  refine ⟨fun c => result
    (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5))
    (m ((c.tc : Thread Cert.Kernel2Ideal.nD Cert.Kernel2Ideal.τ).loc Cert.Kernel2Ideal.main_arg6))
    (m ((c.tc : Thread Cert.Kernel2Ideal.nD Cert.Kernel2Ideal.τ).loc Cert.Kernel2Ideal.main_arg7))
    (m ((c.tc : Thread Cert.Kernel2Ideal.nD Cert.Kernel2Ideal.τ).loc Cert.Kernel2Ideal.main_arg8))
    (m ((c.tc : Thread Cert.Kernel2Ideal.nD Cert.Kernel2Ideal.τ).loc Cert.Kernel2Ideal.main_arg9))
    (m ((c.tc : Thread Cert.Kernel2Ideal.nD Cert.Kernel2Ideal.τ).loc Cert.Kernel2Ideal.main_arg10))
    (m ((c.tc : Thread Cert.Kernel2Ideal.nD Cert.Kernel2Ideal.τ).loc Cert.Kernel2Ideal.main_arg11))
    (m ((c.tc : Thread Cert.Kernel2Ideal.nD Cert.Kernel2Ideal.τ).loc Cert.Kernel2Ideal.main_arg12))
    (m ((c.tc : Thread Cert.Kernel2Ideal.nD Cert.Kernel2Ideal.τ).loc Cert.Kernel2Ideal.main_arg13))
    (m ((c.tc : Thread Cert.Kernel2Ideal.nD Cert.Kernel2Ideal.τ).loc Cert.Kernel2Ideal.main_arg14))
    (m ((c.tc : Thread Cert.Kernel2Ideal.nD Cert.Kernel2Ideal.τ).loc Cert.Kernel2Ideal.main_arg15))
    (m ((c.tc : Thread Cert.Kernel2Ideal.nD Cert.Kernel2Ideal.τ).loc Cert.Kernel2Ideal.main_arg16))
    (m ((c.tc : Thread Cert.Kernel2Ideal.nD Cert.Kernel2Ideal.τ).loc Cert.Kernel2Ideal.main_arg17)), ?_, ?_⟩
  · exact (θ_run Cert.Kernel2Ideal.defs _ _).mono (fun _ h c => ⟨(h c).1.trans (array_eq m c), (h c).2⟩) (Cert.Kernel2Ideal.Value.run_blocks m ρ)
  · refine (θ_run Cert.Reference2Ideal.defs _ _).mono (fun _ h c => ⟨(h c).1.trans ?_, (h c).2⟩) (Cert.Reference2Ideal.Value.run m' ρ')
    refine (Cert.Reference2Ideal.Read.val_main_v115_eq _).trans ((ref_result _ _ _ _ _ _ _ _ _ _ _ _ _ _ _ _ _ _).trans ?_)
    obtain ⟨e0, e1, e2, e3, e4, e5, e6, e7, e8, e9, e10, e11, e12, e13, e14, e15, e16, e17⟩ := ha c
    show result
        (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4))
        (m' ((c.tc : Thread Cert.Reference2Ideal.nD Cert.Reference2Ideal.τ).loc Cert.Reference2Ideal.main_arg5))
        (m' ((c.tc : Thread Cert.Reference2Ideal.nD Cert.Reference2Ideal.τ).loc Cert.Reference2Ideal.main_arg6))
        (m' ((c.tc : Thread Cert.Reference2Ideal.nD Cert.Reference2Ideal.τ).loc Cert.Reference2Ideal.main_arg7))
        (m' ((c.tc : Thread Cert.Reference2Ideal.nD Cert.Reference2Ideal.τ).loc Cert.Reference2Ideal.main_arg8))
        (m' ((c.tc : Thread Cert.Reference2Ideal.nD Cert.Reference2Ideal.τ).loc Cert.Reference2Ideal.main_arg9))
        (m' ((c.tc : Thread Cert.Reference2Ideal.nD Cert.Reference2Ideal.τ).loc Cert.Reference2Ideal.main_arg10))
        (m' ((c.tc : Thread Cert.Reference2Ideal.nD Cert.Reference2Ideal.τ).loc Cert.Reference2Ideal.main_arg11))
        (m' ((c.tc : Thread Cert.Reference2Ideal.nD Cert.Reference2Ideal.τ).loc Cert.Reference2Ideal.main_arg12))
        (m' ((c.tc : Thread Cert.Reference2Ideal.nD Cert.Reference2Ideal.τ).loc Cert.Reference2Ideal.main_arg13))
        (m' ((c.tc : Thread Cert.Reference2Ideal.nD Cert.Reference2Ideal.τ).loc Cert.Reference2Ideal.main_arg14))
        (m' ((c.tc : Thread Cert.Reference2Ideal.nD Cert.Reference2Ideal.τ).loc Cert.Reference2Ideal.main_arg15))
        (m' ((c.tc : Thread Cert.Reference2Ideal.nD Cert.Reference2Ideal.τ).loc Cert.Reference2Ideal.main_arg16))
        (m' ((c.tc : Thread Cert.Reference2Ideal.nD Cert.Reference2Ideal.τ).loc Cert.Reference2Ideal.main_arg17)) = _
    rw [e0, e1, e2, e3, e4, e5, e6, e7, e8, e9, e10, e11, e12, e13, e14, e15, e16, e17]

end Cert.Merge

end
-- ==== Proof.lean ====
/- Assembles the claims: the Fourier mixer (Kernel, KernelIdeal, ReferenceIdeal), the merge with the feed-forward part
   (Kernel2, Kernel2Ideal, Reference2Ideal), the input projection (Kernel3, Kernel3Ideal, Reference3Ideal). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Kernel2.Frame
public import proofs.«01_k».proof.Proof.Gen.Kernel2Ideal.Frame
public import proofs.«01_k».proof.Proof.Gen.Kernel3Ideal.Value
public import proofs.«01_k».proof.Proof.Gen.Reference3Ideal.Run
public import proofs.«01_k».proof.Proof.Gen.Kernel3.Frame
public import proofs.«01_k».proof.Proof.Gen.Kernel3Ideal.Frame
public import proofs.«01_k».proof.Proof.Gen.Pre_finite
public import proofs.«01_k».proof.Proof.Gen.Reference2Ideal.Read
public import proofs.«01_k».proof.Proof.Gen.Reference3Ideal.Read
public import proofs.«01_k».proof.Proof.Fnet.Equation
public import proofs.«01_k».proof.Proof.Inproj.Equation
public import proofs.«01_k».proof.Proof.Merge.Equation
public import Idealize.ShloMosaic.Adequacy
public import Idealize.ShloMosaic.Init

@[expose] public section

noncomputable section

namespace Cert.Proof

open Idealize.ShloMosaic Idealize.ShloMosaic.TcCoe Idealize.SL.Sem

/-- The mixer's reference ends, its arguments unchanged and every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward part's reference ends, its arguments unchanged and every counter at zero. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The input projection's reference ends, its arguments unchanged and every counter at zero. -/
theorem frame_reference3 : Cert.quiescent_Reference3Ideal (hReference3Ideal := Cert.Reference3Ideal.Gen.facts) := fun m ρ _ =>
  (θ_run Cert.Reference3Ideal.defs _ _).mono (fun r h => ⟨fun c => (h c).2.2.2.2.2.2.2.2.2.2, sem_eq_zero_of_no_sems (by decide) r.2⟩)
    (Cert.Reference3Ideal.Value.run (F := Ideal) m ρ)

/-- The named constant stands for the word that the kernel has in its place. -/
theorem preserves : Cert.preserves_Kernel_KernelIdeal :=
  IdealRules.named_const.statement Cert.KernelIdeal.κ "sqrt_half" .f32 0x3F3504F3#32 (((Real.sqrt 2)⁻¹ : ℝ) : EReal) rfl

/-- All the claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    preserves, Cert.Fnet.algebraic, trivial, Cert.Merge.algebraic, trivial, Cert.Inproj.algebraic⟩

end Cert.Proof

end
